-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x4096x4x64 : S_.BroadcastsInDim S2x4096x4x64 (![] : Fin 0 → Fin S2x4096x4x64.rank)

variable [Facts]

def fn {F : FTy → Type} [FloatOps F] (main_arg0 : FVec F S2x128x512 .f32) (main_arg1 : FVec F S512x256 .f32) (main_arg2 : FVec F S2x4096x4x64 .f32) (main_arg3 : FVec F S2x4096x4x64 .f32) (main_arg4 : FVec F S256x512 .f32) : IVec S2x128x512 1 × IVec S512x256 1 × IVec S2x4096x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x4096x4x64 .f32 := Host.absf main_arg2
  let main_cst_1 : FVec F S_ .f32 := constant S_ .f32 0x7F800000#32
  let main_v7 : FVec F S2x4096x4x64 .f32 := broadcastInDim S2x4096x4x64 ![] bcast_S_S2x4096x4x64 main_cst_1
  let main_v8 : IVec S2x4096x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S8x66x128 : Shape := ⟨3, ![8, 66, 128]⟩
abbrev S5x8x66x128 : Shape := ⟨4, ![5, 8, 66, 128]⟩
abbrev S5 : Shape := ⟨1, ![5]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S64x128 : Shape := ⟨2, ![64, 128]⟩
abbrev S1x64x128 : Shape := ⟨3, ![1, 64, 128]⟩
abbrev S1x1x128 : Shape := ⟨3, ![1, 1, 128]⟩
abbrev S1 : Shape := ⟨1, ![1]⟩
abbrev S1x8x66x128 : Shape := ⟨4, ![1, 8, 66, 128]⟩
abbrev S8x64x128 : Shape := ⟨3, ![8, 64, 128]⟩
abbrev S8x1x128 : Shape := ⟨3, ![8, 1, 128]⟩
abbrev S1x8x64x128 : Shape := ⟨4, ![1, 8, 64, 128]⟩
abbrev S1x8x1x128 : Shape := ⟨4, ![1, 8, 1, 128]⟩
abbrev S1x128 : Shape := ⟨2, ![1, 128]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S8x66x128, .f32⟩
  | .local _ .vmem, ⟨7, _⟩ => ⟨S5x8x66x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v307 : BitVec 32 := Scalar.xori v2 c1_i32_218
  let c1_i32_222 : BitVec 32 := 1#32
  let v308 : BitVec 32 := Scalar.muli v307 c1_i32_222
  let v309 : BitVec 32 := Scalar.addi c0_i32_223 v308
  v309.toNat
def k0_dev7 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_272 : BitVec 32 := 2#32
  let v357 : BitVec 32 := Scalar.xori v2 c2_i32_272
  let c1_i32_276 : BitVec 32 := 1#32
  let v358 : BitVec 32 := Scalar.muli v357 c1_i32_276
  let v359 : BitVec 32 := Scalar.addi c0_i32_277 v358
  v359.toNat
def k0_dev8 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_326 : BitVec 32 := 4#32
  let v407 : BitVec 32 := Scalar.xori v2 c4_i32_326
  let c1_i32_330 : BitVec 32 := 1#32
  let v408 : BitVec 32 := Scalar.muli v407 c1_i32_330
  let v409 : BitVec 32 := Scalar.addi c0_i32_331 v408
  v409.toNat
def k0_dev9 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_380 : BitVec 32 := 8#32
  let v457 : BitVec 32 := Scalar.xori v2 c8_i32_380
  let c1_i32_383 : BitVec 32 := 1#32
  let v458 : BitVec 32 := Scalar.muli v457 c1_i32_383
  let v459 : BitVec 32 := Scalar.addi c0_i32_384 v458
  v459.toNat
def k0_dev10 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_433 : BitVec 32 := 16#32
  let v507 : BitVec 32 := Scalar.xori v2 c16_i32_433
  let c1_i32_437 : BitVec 32 := 1#32
  let v508 : BitVec 32 := Scalar.muli v507 c1_i32_437
  let v509 : BitVec 32 := Scalar.addi c0_i32_438 v508
  v509.toNat
def k0_dev11 (d0 : Dev nD) : Nat :=
  let c0_i32_566_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_563_r0 : BitVec 32 := 1#32
  let v642_r0 : BitVec 32 := Scalar.xori v2 c1_i32_563_r0
  let c1_i32_565_r0 : BitVec 32 := 1#32
  let v643_r0 : BitVec 32 := Scalar.muli v642_r0 c1_i32_565_r0
  let v644_r0 : BitVec 32 := Scalar.addi c0_i32_566_r0 v643_r0
  v644_r0.toNat
def k0_dev12 (d0 : Dev nD) : Nat :=
  let c0_i32_570_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_567_r0 : BitVec 32 := 2#32
  let v645_r0 : BitVec 32 := Scalar.xori v2 c2_i32_567_r0
  let c1_i32_569_r0 : BitVec 32 := 1#32
  let v646_r0 : BitVec 32 := Scalar.muli v645_r0 c1_i32_569_r0
  let v647_r0 : BitVec 32 := Scalar.addi c0_i32_570_r0 v646_r0
  v647_r0.toNat
def k0_dev13 (d0 : Dev nD) : Nat :=
  let c0_i32_574_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_571_r0 : BitVec 32 := 4#32
  let v648_r0 : BitVec 32 := Scalar.xori v2 c4_i32_571_r0
  let c1_i32_573_r0 : BitVec 32 := 1#32
  let v649_r0 : BitVec 32 := Scalar.muli v648_r0 c1_i32_573_r0
  let v650_r0 : BitVec 32 := Scalar.addi c0_i32_574_r0 v649_r0
  v650_r0.toNat
def k0_dev14 (d0 : Dev nD) : Nat :=
  let c0_i32_578_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_575_r0 : BitVec 32 := 8#32
  let v651_r0 : BitVec 32 := Scalar.xori v2 c8_i32_575_r0
  let c1_i32_577_r0 : BitVec 32 := 1#32
  let v652_r0 : BitVec 32 := Scalar.muli v651_r0 c1_i32_577_r0
  let v653_r0 : BitVec 32 := Scalar.addi c0_i32_578_r0 v652_r0
  v653_r0.toNat
def k0_dev15 (d0 : Dev nD) : Nat :=
  let c0_i32_582_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_579_r0 : BitVec 32 := 16#32
  let v654_r0 : BitVec 32 := Scalar.xori v2 c16_i32_579_r0
  let c1_i32_581_r0 : BitVec 32 := 1#32
  let v655_r0 : BitVec 32 := Scalar.muli v654_r0 c1_i32_581_r0
  let v656_r0 : BitVec 32 := Scalar.addi c0_i32_582_r0 v655_r0
  v656_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S4096 : Shape := ⟨1, ![4096]⟩
abbrev S1x4096 : Shape := ⟨2, ![1, 4096]⟩
abbrev S128x4096 : Shape := ⟨2, ![128, 4096]⟩
abbrev S2x4x128x4096 : Shape := ⟨4, ![2, 4, 128, 4096]⟩
abbrev S1x1x128x4096 : Shape := ⟨4, ![1, 1, 128, 4096]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x256, .f32⟩
  | 2 => ⟨S2x4096x4x64, .f32⟩
  | 3 => ⟨S2x4096x4x64, .f32⟩
  | 4 => ⟨S256x512, .f32⟩
  | 5 => ⟨S2x128x256, .f32⟩
  | 6 => ⟨S2x128x4x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S128x4096, .i32⟩
  | 48 => ⟨S128x4096, .i32⟩
  | 49 => ⟨S128x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x4096, .i32⟩
  | 95 => ⟨S128x4096, .i32⟩
  | 96 => ⟨S128x4096, .i1⟩
  | 97 => ⟨S128x4096, .i1⟩
  | 98 => ⟨S2x4x128x4096, .f32⟩
  | 99 => ⟨S_, .f32⟩
  | 100 => ⟨S2x4x128x4096, .f32⟩
  | 101 => ⟨S2x4x128x4096, .f32⟩
  | 102 => ⟨S1x1x128x4096, .i1⟩
  | 103 => ⟨S_, .f32⟩
  | 104 => ⟨S_, .f32⟩
  | 105 => ⟨S2x4x128x4096, .i1⟩
  | 106 => ⟨S2x4x128x4096, .f32⟩
  | 107 => ⟨S2x4x128x4096, .f32⟩
  | 108 => ⟨S_, .f32⟩
  | 109 => ⟨S2x4x128, .f32⟩
  | 110 => ⟨S2x4x128x1, .f32⟩
  | 111 => ⟨S2x4x128x4096, .f32⟩
  | 112 => ⟨S2x4x128x4096, .f32⟩
  | 113 => ⟨S2x4x128x4096, .f32⟩
  | 114 => ⟨S_, .i1⟩
  | 115 => ⟨S128, .i1⟩
  | 116 => ⟨S1x1x128x1, .i1⟩
  | 117 => ⟨S_, .f32⟩
  | 118 => ⟨S2x4x128, .f32⟩
  | 119 => ⟨S2x4x128x1, .f32⟩
  | 120 => ⟨S_, .f32⟩
  | 121 => ⟨S_, .f32⟩
  | 122 => ⟨S2x4x128x1, .i1⟩
  | 123 => ⟨S2x4x128x1, .f32⟩
  | 124 => ⟨S2x4x128x1, .f32⟩
  | 125 => ⟨S2x4x128x4096, .f32⟩
  | 126 => ⟨S2x4x128x4096, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x4x128x4096, .i1⟩
  | 3 => ⟨S2x4x128x4096, .f32⟩
  | 4 => ⟨S2x4x128x4096, .f32⟩
  | 5 => ⟨S2x4x64x128, .f32⟩
  | 6 => ⟨S2x128x4x64, .f32⟩
  | 7 => ⟨S2x128x256, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Protocol.lean ====
/-
# The butterfly's protocol

Thirty-two devices run the kernel. In round `k` of five a device exchanges its partial softmax state with the
device whose index differs from its own in bit `k` (`pt k c`). The state travels by one remote copy from the
send buffer of one device into slot `k` of the landing buffer of the other.

Cells of device `c`, each with one round of duties:

* the runtime's barrier semaphore: five duties of one unit, duty `k` paid by `pt k c`, whose signal hands over
  slot `k` of its landing buffer; `c` waits for five;
* `send k`: one duty, paid by `c`'s own copy, which hands the send buffer back; `c` waits for the copy's credit;
* `recv k`: one duty, paid by the copy of `pt k c`, which hands over slot `k` of `c`'s landing buffer holding the
  state of `pt k c` before round `k`; `c` waits for the copy's credit;
* the closing barrier: five duties of one unit, duty `k` paid by `pt k c`, nothing handed over.

What a device owes is listed in program order (`due`), so that every operation peels the head of the list. The
schedule is stated for any family `P` of states: `P k c` is the state of device `c` before round `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The butterfly's own copy of the rounds library, its duties named by the round of the exchange. -/
abbrev UB : Type := URounds (GSem nD τ sig) (Fin 5)
/-- The pipeline's copy beside the butterfly's. -/
abbrev UU : Type := UR sig nD τ × UB

local notation "𝕄" => MT nD τ sig Unit (Elt F) ℕ UU ℕ

/-- Where the pipeline's copy lies. -/
abbrev EP : Emb (UR sig nD τ) (MT nD τ sig Unit (Elt F) ℕ UU ℕ) := embL
/-- Where the butterfly's copy lies. -/
abbrev ER : Emb UB (MT nD τ sig Unit (Elt F) ℕ UU ℕ) := embR

/-! ## Partners -/

set_option backward.proofsInPublic true in
/-- The partner of device `c` in round `k`: the index with bit `k` flipped. -/
def pt (k : Fin 5) (c : Dev nD) : Dev nD := ⟨(c.val ^^^ 2 ^ k.val) % 32, Nat.mod_lt _ (by decide)⟩

/-- Partnership is mutual. -/
theorem pt_pt (k : Fin 5) (c : Dev nD) : pt k (pt k c) = c := by revert k c; decide +kernel

/-- A device is partner `k` of its own partner `k` only. -/
theorem eq_pt_iff (k : Fin 5) (c d : Dev nD) : c = pt k d ↔ d = pt k c :=
  ⟨fun h => by rw [h, pt_pt], fun h => by rw [h, pt_pt]⟩

/-- Round `k`'s exchange as a permutation of the devices. -/
def swp (k : Fin 5) : Dev nD ≃ Dev nD := ⟨pt k, pt k, pt_pt k, pt_pt k⟩

/-- The devices the fifteen remote operations name, in program order. -/
theorem dev1_eq (c : Dev nD) : (⟨k0_dev1 c, k0_dev1_lt c⟩ : Dev nD) = pt 0 c := by revert c; decide +kernel
theorem dev2_eq (c : Dev nD) : (⟨k0_dev2 c, k0_dev2_lt c⟩ : Dev nD) = pt 1 c := by revert c; decide +kernel
theorem dev3_eq (c : Dev nD) : (⟨k0_dev3 c, k0_dev3_lt c⟩ : Dev nD) = pt 2 c := by revert c; decide +kernel
theorem dev4_eq (c : Dev nD) : (⟨k0_dev4 c, k0_dev4_lt c⟩ : Dev nD) = pt 3 c := by revert c; decide +kernel
theorem dev5_eq (c : Dev nD) : (⟨k0_dev5 c, k0_dev5_lt c⟩ : Dev nD) = pt 4 c := by revert c; decide +kernel
theorem dev6_eq (c : Dev nD) : (⟨k0_dev6 c, k0_dev6_lt c⟩ : Dev nD) = pt 0 c := by revert c; decide +kernel
theorem dev7_eq (c : Dev nD) : (⟨k0_dev7 c, k0_dev7_lt c⟩ : Dev nD) = pt 1 c := by revert c; decide +kernel
theorem dev8_eq (c : Dev nD) : (⟨k0_dev8 c, k0_dev8_lt c⟩ : Dev nD) = pt 2 c := by revert c; decide +kernel
theorem dev9_eq (c : Dev nD) : (⟨k0_dev9 c, k0_dev9_lt c⟩ : Dev nD) = pt 3 c := by revert c; decide +kernel
theorem dev10_eq (c : Dev nD) : (⟨k0_dev10 c, k0_dev10_lt c⟩ : Dev nD) = pt 4 c := by revert c; decide +kernel
theorem dev11_eq (c : Dev nD) : (⟨k0_dev11 c, k0_dev11_lt c⟩ : Dev nD) = pt 0 c := by revert c; decide +kernel
theorem dev12_eq (c : Dev nD) : (⟨k0_dev12 c, k0_dev12_lt c⟩ : Dev nD) = pt 1 c := by revert c; decide +kernel
theorem dev13_eq (c : Dev nD) : (⟨k0_dev13 c, k0_dev13_lt c⟩ : Dev nD) = pt 2 c := by revert c; decide +kernel
theorem dev14_eq (c : Dev nD) : (⟨k0_dev14 c, k0_dev14_lt c⟩ : Dev nD) = pt 3 c := by revert c; decide +kernel
theorem dev15_eq (c : Dev nD) : (⟨k0_dev15 c, k0_dev15_lt c⟩ : Dev nD) = pt 4 c := by revert c; decide +kernel

/-! ## The memrefs and cells -/

/-- The send buffer. -/
abbrev pM : Memref sig .tc .vmem S8x66x128 .f32 := Memref.whole cc0_scratch0
/-- The landing buffer, five slots. -/
abbrev cM : Memref sig .tc .vmem S5x8x66x128 .f32 := Memref.whole cc0_scratch1

set_option backward.proofsInPublic true in
/-- Slot `k` lies within the landing buffer. -/
theorem inb_slot (k : Fin 5) : ∀ a, (![k.val, 0, 0, 0] : Fin 4 → Nat) a + S1x8x66x128.size a ≤ S5x8x66x128.size a := by revert k; decide
/-- Slot `k` of the landing buffer. -/
abbrev slotM (k : Fin 5) : Memref sig .tc .vmem S8x66x128 .f32 :=
  (cM.slice (Rect.unit (s := S5x8x66x128) ![k.val, 0, 0, 0] S1x8x66x128.size (inb_slot k)) (fun _ => rfl)).squeeze S8x66x128 squeezes_S1x8x66x128_S8x66x128

/-- The runtime's barrier semaphore. -/
abbrev barS : Sem sig := (SemArray.scalar (sig.barrier 0 rfl) : Sems sig S_).sem
/-- The closing barrier's semaphore. -/
abbrev finS : Sem sig := (cc0_scoped0 : Sems sig S_).sem
set_option backward.proofsInPublic true in
/-- One semaphore lies within the five. -/
theorem inb_sem (k : Fin 5) : ∀ a, (![k.val] : Fin 1 → Nat) a + S1.size a ≤ S5.size a := by revert k; decide
/-- Round `k`'s send semaphore. -/
abbrev sendS (k : Fin 5) : DmaSem sig := ((cc0_scratch2.slice (Rect.unit (s := S5) ![k.val] S1.size (inb_sem k))).squeeze S_ squeezes_S1_S_).sem
/-- Round `k`'s receive semaphore. -/
abbrev recvS (k : Fin 5) : DmaSem sig := ((cc0_scratch3.slice (Rect.unit (s := S5) ![k.val] S1.size (inb_sem k))).squeeze S_ squeezes_S1_S_).sem

/-- What a semaphore is to the protocol. -/
inductive Role where
  | bar | fin | send (k : Fin 5) | recv (k : Fin 5) | other
  deriving DecidableEq

set_option backward.proofsInPublic true in
/-- The role of each semaphore. -/
def role : SemLoc sig → Role
  | .reg s => if s = barS then .bar else if s = finS then .fin else .other
  | .dma q => if h : 6 ≤ q.val ∧ q.val < 11 then .send ⟨q.val - 6, by omega⟩
      else if h : 11 ≤ q.val ∧ q.val < 16 then .recv ⟨q.val - 11, by omega⟩ else .other

theorem role_bar : role (.reg barS) = .bar := by decide
theorem role_fin : role (.reg finS) = .fin := by decide
theorem role_send (k : Fin 5) : role (.dma (sendS k)) = .send k := by revert k; decide
theorem role_recv (k : Fin 5) : role (.dma (recvS k)) = .recv k := by revert k; decide

/-- The cells of device `c`. -/
abbrev barC (c : Dev nD) : GSem nD τ sig := ((c : Thread nD τ), .reg barS)
abbrev finC (c : Dev nD) : GSem nD τ sig := ((c : Thread nD τ), .reg finS)
abbrev sendC (k : Fin 5) (c : Dev nD) : GSem nD τ sig := ((c : Thread nD τ), .dma (sendS k))
abbrev recvC (k : Fin 5) (c : Dev nD) : GSem nD τ sig := ((c : Thread nD τ), .dma (recvS k))

/-- The credit of one copy. -/
abbrev N : ℕ := pM.view.dmaCredit
theorem N_pos : 0 < N := View.dmaCredit_pos _ (by decide)

/-! ## Contents and payloads -/

/-- The type of a send buffer's contents. -/
abbrev PBuf (F : FTy → Type) [FloatOps F] : Type := (cc0_scratch0 : Ref sig .tc).ty.Contents (Elt F)
/-- The type of a landing buffer's contents. -/
abbrev CBuf (F : FTy → Type) [FloatOps F] : Type := (cc0_scratch1 : Ref sig .tc).ty.Contents (Elt F)

/-- Device `c`'s send buffer holding `f`. -/
def pPts (c : Dev nD) (f : PBuf F) : sProp 𝕄 := pM.view.loc (c : Thread nD τ) ↦[pM.view.set]{fullShare} f
/-- Slot `k` of device `c`'s landing buffer holding `f` (on the slot). -/
def slotPts (k : Fin 5) (c : Dev nD) (f : CBuf F) : sProp 𝕄 :=
  (slotM k).view.loc (c : Thread nD τ) ↦[(slotM k).view.set]{fullShare} f

instance pPts_storable (c : Dev nD) (f : PBuf F) : BI.Storable (upEmb : UEmb _ 𝕄) (pPts (F := F) c f) := by unfold pPts; infer_instance
instance slotPts_storable (k : Fin 5) (c : Dev nD) (f : CBuf F) : BI.Storable (upEmb : UEmb _ 𝕄) (slotPts (F := F) k c f) := by
  unfold slotPts; infer_instance

/-- A landing buffer whose slot `k` holds the state `f`. -/
def landed (k : Fin 5) (f : PBuf F) : CBuf F := (slotM k).view.write (Elt F) (fun _ => Classical.arbitrary _) (pM.view.read (Elt F) f) Finset.univ

/-- What is on the slot after a copy does not depend on what was there before. -/
theorem slotPts_landed (k : Fin 5) (c : Dev nD) (fd : CBuf F) (f : PBuf F) :
    slotPts k c ((slotM k).view.write (Elt F) fd (pM.view.read (Elt F) f) Finset.univ) = slotPts k c (landed k f) := by
  unfold slotPts landed
  refine pointsTo_congr fun i hi => ?_
  obtain ⟨x, -, rfl⟩ := Finset.mem_map.mp hi
  rw [View.write_emb, View.write_emb, if_pos (Finset.mem_univ x), if_pos (Finset.mem_univ x)]

variable (P : Fin 5 → Dev nD → PBuf F)

/-- What duty `k` of `c`'s barrier cell hands over: slot `k` of the partner's landing buffer. -/
def barPay (k : Fin 5) (c : Dev nD) : sProp 𝕄 := iprop(∃ f, slotPts k (pt k c) f)
/-- What the arrival of round `k`'s copy hands `c`: its slot `k` holding the partner's state. -/
def recvPay (k : Fin 5) (c : Dev nD) : sProp 𝕄 := slotPts k c (landed k (P k (pt k c)))
/-- What the departure of `c`'s own copy hands back: its send buffer. -/
def sendPay (k : Fin 5) (c : Dev nD) : sProp 𝕄 := pPts c (P k c)

/-! ## The schedule -/

/-- One round per cell. -/
def rd : Rounds.Schedule (GSem nD τ sig) (Fin 5) 𝕄 where
  duties g r := if r = 0 ∧ g.1.2 = .tc then (match role g.2 with
    | .bar => Finset.univ | .fin => Finset.univ | .send _ => {0} | .recv _ => {0} | .other => ∅) else ∅
  unitless _ := False
  amount g _ _ := match role g.2 with
    | .bar => 1 | .fin => 1 | _ => N
  payload g _ d := match role g.2 with
    | .bar => barPay d g.1.1
    | .send k => sendPay P k g.1.1
    | .recv k => recvPay P k g.1.1
    | _ => iprop(emp)
  amount_pos g _ _ _ := by
    split
    · exact Nat.one_pos
    · exact Nat.one_pos
    · exact N_pos

instance rd_payload_storable (g : GSem nD τ sig) (r : ℕ) (d : Fin 5) :
    BI.Storable (upEmb : UEmb _ 𝕄) ((rd (F := F) P).payload g r d) := by
  dsimp only [rd]; unfold barPay recvPay sendPay
  split <;> infer_instance

section Sched
variable (k : Fin 5) (c : Dev nD)

theorem duties_bar : (rd P).duties (barC c) 0 = Finset.univ := by dsimp only [rd]; rw [role_bar]; exact if_pos ⟨rfl, rfl⟩
theorem duties_fin : (rd P).duties (finC c) 0 = Finset.univ := by dsimp only [rd]; rw [role_fin]; exact if_pos ⟨rfl, rfl⟩
theorem duties_send : (rd P).duties (sendC k c) 0 = {0} := by dsimp only [rd]; rw [role_send]; exact if_pos ⟨rfl, rfl⟩
theorem duties_recv : (rd P).duties (recvC k c) 0 = {0} := by dsimp only [rd]; rw [role_recv]; exact if_pos ⟨rfl, rfl⟩
theorem duties_later (g : GSem nD τ sig) : ∀ r, 1 ≤ r → (rd P).duties g r = ∅ :=
  fun r hr => by dsimp only [rd]; rw [if_neg fun h => by omega]

theorem amount_bar (d : Fin 5) : (rd P).amount (barC c) 0 d = 1 := by dsimp only [rd]; rw [role_bar]
theorem amount_fin (d : Fin 5) : (rd P).amount (finC c) 0 d = 1 := by dsimp only [rd]; rw [role_fin]
theorem amount_send (d : Fin 5) : (rd P).amount (sendC k c) 0 d = N := by dsimp only [rd]; rw [role_send]
theorem amount_recv (d : Fin 5) : (rd P).amount (recvC k c) 0 d = N := by dsimp only [rd]; rw [role_recv]

theorem expect_bar : (rd P).expect (barC c) 0 = 5 := by
  unfold Schedule.expect Schedule.amountOf
  rw [duties_bar, Finset.sum_congr rfl fun d _ => amount_bar P c d, Finset.sum_const, Finset.card_univ, Fintype.card_fin, smul_eq_mul]
theorem expect_fin : (rd P).expect (finC c) 0 = 5 := by
  unfold Schedule.expect Schedule.amountOf
  rw [duties_fin, Finset.sum_congr rfl fun d _ => amount_fin P c d, Finset.sum_const, Finset.card_univ, Fintype.card_fin, smul_eq_mul]
theorem expect_send : (rd P).expect (sendC k c) 0 = N := by
  unfold Schedule.expect Schedule.amountOf; rw [duties_send, Finset.sum_singleton, amount_send]
theorem expect_recv : (rd P).expect (recvC k c) 0 = N := by
  unfold Schedule.expect Schedule.amountOf; rw [duties_recv, Finset.sum_singleton, amount_recv]

theorem payload_bar (d : Fin 5) : (rd P).payload (barC c) 0 d = barPay d c := by dsimp only [rd]; rw [role_bar]
theorem payload_fin (d : Fin 5) : (rd P).payload (finC c) 0 d = iprop(emp) := by dsimp only [rd]; rw [role_fin]
theorem payload_send (d : Fin 5) : (rd P).payload (sendC k c) 0 d = sendPay P k c := by dsimp only [rd]; rw [role_send]
theorem payload_recv (d : Fin 5) : (rd P).payload (recvC k c) 0 d = recvPay P k c := by dsimp only [rd]; rw [role_recv]

omit [FloatOps F] in
/-- The five rounds one by one. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What the barrier wait brings: the five slots. -/
theorem rest_bar : bigSep ((rd P).duties (barC c) 0 \ ∅) (fun d => (rd P).payload (barC c) 0 d)
    = iprop(barPay 0 c ∗ barPay 1 c ∗ barPay 2 c ∗ barPay 3 c ∗ barPay 4 c) := by
  rw [Finset.sdiff_empty, duties_bar, bigSep_five]; simp only [payload_bar]
theorem rest_send : bigSep ((rd P).duties (sendC k c) 0 \ ∅) (fun d => (rd P).payload (sendC k c) 0 d) = sendPay P k c := by
  rw [Finset.sdiff_empty, duties_send, bigSep_singleton, payload_send]
theorem rest_recv : bigSep ((rd P).duties (recvC k c) 0 \ ∅) (fun d => (rd P).payload (recvC k c) 0 d) = recvPay P k c := by
  rw [Finset.sdiff_empty, duties_recv, bigSep_singleton, payload_recv]

end Sched

/-! ## What each device owes; the levels -/

/-- The `i`-th cell device `c` pays in program order, and the units: five barrier signals, five copies, five closing
    signals. -/
def due (c : Dev nD) : Fin 15 → GSem nD τ sig × ℕ :=
  ![(barC (pt 0 c), 1), (barC (pt 1 c), 1), (barC (pt 2 c), 1), (barC (pt 3 c), 1), (barC (pt 4 c), 1),
    (recvC 0 (pt 0 c), N), (recvC 1 (pt 1 c), N), (recvC 2 (pt 2 c), N), (recvC 3 (pt 3 c), N), (recvC 4 (pt 4 c), N),
    (finC (pt 0 c), 1), (finC (pt 1 c), 1), (finC (pt 2 c), 1), (finC (pt 3 c), 1), (finC (pt 4 c), 1)]

/-- The levels of those fifteen. -/
def dueLv : Fin 15 → ℕ := ![1, 1, 1, 1, 1, 2, 3, 4, 5, 6, 7, 7, 7, 7, 7]

set_option backward.proofsInPublic true in
/-- What device `c` still owes with `n` payments outstanding; the next one is the last summand. -/
def owe (c : Dev nD) : ℕ → CellTallies nD τ sig Unit
  | 0 => 0
  | n + 1 => owe c n + if h : n < 15 then tallyAt (due c ⟨14 - n, by omega⟩).1 () (due c ⟨14 - n, by omega⟩).2 else 0

/-- Every TensorCore cell is at the one index. -/
def L (g : GSem nD τ sig) : Finset Unit := if g.1.2 = .tc then {()} else ∅
/-- Barrier at 1, receive `k` at `2 + k`, closing barrier at 7, everything else at 0. -/
def lv (g : GSem nD τ sig) (_ : Unit) : ℕ := match role g.2 with
  | .bar => 1 | .recv k => 2 + k.val | .fin => 7 | _ => 0

theorem L_of_ne (g : GSem nD τ sig) (h : g.1.2 ≠ .tc) : L g = ∅ := if_neg h
theorem L_tc (c : Dev nD) (sm : SemLoc sig) : L ((c : Thread nD τ), sm) = {()} := if_pos rfl

/-- What is owed is owed to one of the cells still due. -/
theorem owe_pos {c : Dev nD} {g : GSem nD τ sig} {u : Unit} {n : ℕ} (h : 0 < owe c n g u) :
    ∃ i : Fin 15, 15 ≤ i.val + n ∧ g = (due c i).1 := by
  induction n with
  | zero => exact absurd h (Nat.lt_irrefl 0)
  | succ n ih =>
    unfold owe at h
    rw [Pi.add_apply, Finsupp.add_apply] at h
    by_cases h0 : 0 < owe c n g u
    · obtain ⟨i, hi, e⟩ := ih h0; exact ⟨i, by omega, e⟩
    · by_cases hn : n < 15
      · rw [dif_pos hn, tallyAt_apply] at h
        refine ⟨⟨14 - n, by omega⟩, by simp only; omega, ?_⟩
        by_contra hc
        rw [if_neg (fun h' => hc h'.1)] at h; omega
      · rw [dif_neg hn] at h
        exact absurd h (by simpa using h0)

/-- The level of a cell still due, and that it is a TensorCore's. -/
theorem due_lv (c : Dev nD) (i : Fin 15) (u : Unit) : lv (due c i).1 u = dueLv i ∧ (due c i).1.1.2 = .tc := by
  fin_cases i <;> exact ⟨by unfold lv; simp only [due]; first | (erw [role_bar]; rfl) | (erw [role_fin]; rfl) | (erw [role_recv]; rfl), rfl⟩

/-- The later payments are at the higher levels. -/
theorem dueLv_lt (i : Fin 15) (n l : ℕ) (hi : 15 ≤ i.val + n) (h : ∀ j : Fin 15, 15 ≤ j.val + n → l < dueLv j) : l < dueLv i := h i hi

/-- A device may wait on a cell below everything it still owes. -/
theorem mayWait_owe (c : Dev nD) (sm : SemLoc sig) (n : ℕ) (h : ∀ j : Fin 15, 15 ≤ j.val + n → lv ((c : Thread nD τ), sm) () < dueLv j) :
    (levAts L lv : sProp 𝕄) ⊢ MayWait (c : Thread nD τ) sm () (owe c n) :=
  MayOwe.of_cut (L := L) (lev := lv) (lv ((c : Thread nD τ), sm) ())
    (fun p hp => by rw [Finset.mem_singleton.mp hp, L_tc]; exact Finset.mem_singleton_self _)
    (fun g u hg => by
      obtain ⟨i, hi, rfl⟩ := owe_pos hg
      unfold L; rw [if_pos (due_lv c i u).2]; exact Finset.mem_singleton_self _)
    (fun p hp => by rw [Finset.mem_singleton.mp hp])
    (fun g u hg => by
      obtain ⟨i, hi, rfl⟩ := owe_pos hg
      rw [(due_lv c i u).1]; exact h i hi)

end Cert.KernelIdealProof

end
-- ==== Proof.Steps.lean ====
/-
# The butterfly's remote operations, one rule each

For every remote operation of the kernel — a barrier signal, the barrier wait, a copy, the two waits of a round, a
closing signal, the closing wait — the resources it takes and what it gives back, at any round `k` and any device.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Fin 5 → Dev nD → PBuf F) (K : Dev nD × Fin 12 → ℕ)

/-- The places of a device's send and receive cells among its twelve: barrier 0, closing barrier 1, sends 2 to 6,
    receives 7 to 11. -/
abbrev iS (k : Fin 5) : Fin 12 := ⟨2 + k.val, by omega⟩
abbrev iR (k : Fin 5) : Fin 12 := ⟨7 + k.val, by omega⟩

/-- What device `c` signals the barrier of its partner `k` with. -/
def gBar (k : Fin 5) (c : Dev nD) : sProp 𝕄 :=
  iprop(cellInv ER (rd P) (K (pt k c, 0)) (barC (pt k c)) ∗ reached ER (barC (pt k c)) 0 ∗ dutyTok ER (barC (pt k c)) 0 k)
/-- What it signals the closing barrier of its partner `k` with. -/
def gFin (k : Fin 5) (c : Dev nD) : sProp 𝕄 :=
  iprop(cellInv ER (rd P) (K (pt k c, 1)) (finC (pt k c)) ∗ reached ER (finC (pt k c)) 0 ∗ dutyTok ER (finC (pt k c)) 0 k)
/-- What it starts round `k`'s copy with. -/
def gCopy (k : Fin 5) (c : Dev nD) : sProp 𝕄 :=
  iprop(cellInv ER (rd P) (K (c, iS k)) (sendC k c) ∗ cellInv ER (rd P) (K (pt k c, iR k)) (recvC k (pt k c))
    ∗ reached ER (sendC k c) 0 ∗ reached ER (recvC k (pt k c)) 0 ∗ dutyTok ER (sendC k c) 0 0 ∗ dutyTok ER (recvC k (pt k c)) 0 0)
/-- What it waits on a cell with. -/
def gSend (k : Fin 5) (c : Dev nD) : sProp 𝕄 :=
  iprop(cellInv ER (rd P) (K (c, iS k)) (sendC k c) ∗ atPos ER (sendC k c) 0 ∅ 0)
def gRecv (k : Fin 5) (c : Dev nD) : sProp 𝕄 :=
  iprop(cellInv ER (rd P) (K (c, iR k)) (recvC k c) ∗ atPos ER (recvC k c) 0 ∅ 0 ∗ cred (tallyAt (recvC k c) () N))
def gBarW (c : Dev nD) : sProp 𝕄 :=
  iprop(cellInv ER (rd P) (K (c, 0)) (barC c) ∗ atPos ER (barC c) 0 ∅ 0 ∗ cred (tallyAt (barC c) () 5))
def gFinW (c : Dev nD) : sProp 𝕄 :=
  iprop(cellInv ER (rd P) (K (c, 1)) (finC c) ∗ atPos ER (finC c) 0 ∅ 0 ∗ cred (tallyAt (finC c) () 5))

/-- Device `c` owes `O`, whatever it has waited on. -/
def owesX (c : Dev nD) (O : CellTallies nD τ sig Unit) : sProp 𝕄 := iprop(∃ W, owes (c : Thread nD τ) O W)

section Steps

/-- A barrier signal to partner `k` gives it slot `k` of `c`'s landing buffer. -/
theorem step_bar {α : Type} {Q : α → sProp 𝕄} {k' : PUnit → Prog (TpuEff nD τ sig (Elt F) Λ₀ .tc) α}
    (k : Fin 5) (c n : Dev nD) (hn : n = pt k c) (a : ℕ) (ha : a = 1) (s : Sem sig) (hs : s = barS)
    (O O' : CellTallies nD τ sig Unit) (hO : O = O' + tallyAt (barC (pt k c)) () 1) :
    iprop(gBar P K k c ∗ (∃ f, slotPts k c f) ∗ owesX c O)
      ⊢ iprop((owesX c O' -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (Dev.tc n : Thread nD τ) s a) k') Q) := by
  subst hn ha hs
  unfold gBar owesX
  iintro ⟨⟨#Hi, #Hr, Ht⟩, Hs, ⟨%W, HO⟩⟩ Hk
  iapply (Rounds.wp_signal 𝒱₀ ER (rd P) (c : Thread nD τ) none (dst := (pt k c : Thread nD τ)) (κ := K (pt k c, 0))
      (d := k) (by rw [duties_bar]; exact Finset.mem_univ _) (amount_bar P (pt k c) k) () O' hO) $$ [HO Ht Hs]
  · isplitr; · iexact Hi
    isplitl [HO]; · iexact HO
    isplitl [Ht]; · iexact Ht
    isplitl [Hs]
    · rw [payload_bar]; unfold barPay; rw [pt_pt]; iexact Hs
    · iexact Hr
  iintro HO
  iapply Hk
  iexists W; iexact HO

/-- A closing signal to partner `k`. -/
theorem step_fin {α : Type} {Q : α → sProp 𝕄} {k' : PUnit → Prog (TpuEff nD τ sig (Elt F) Λ₀ .tc) α}
    (k : Fin 5) (c n : Dev nD) (hn : n = pt k c) (a : ℕ) (ha : a = 1) (s : Sem sig) (hs : s = finS)
    (O O' : CellTallies nD τ sig Unit) (hO : O = O' + tallyAt (finC (pt k c)) () 1) :
    iprop(gFin P K k c ∗ owesX c O)
      ⊢ iprop((owesX c O' -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (Dev.tc n : Thread nD τ) s a) k') Q) := by
  subst hn ha hs
  unfold gFin owesX
  iintro ⟨⟨#Hi, #Hr, Ht⟩, ⟨%W, HO⟩⟩ Hk
  iapply (Rounds.wp_signal 𝒱₀ ER (rd P) (c : Thread nD τ) none (dst := (pt k c : Thread nD τ)) (κ := K (pt k c, 1))
      (d := k) (by rw [duties_fin]; exact Finset.mem_univ _) (amount_fin P (pt k c) k) () O' hO) $$ [HO Ht]
  · isplitr; · iexact Hi
    isplitl [HO]; · iexact HO
    isplitl [Ht]; · iexact Ht
    isplitr
    · rw [payload_fin]; iempintro
    · iexact Hr
  iintro HO
  iapply Hk
  iexists W; iexact HO

/-- A wait for the whole of a cell's one round, under a device that still owes `n` payments: the round's payloads, and
    the cell closed at zero. -/
theorem step_wait {α : Type} {Q : α → sProp 𝕄} {k' : PUnit → Prog (TpuEff nD τ sig (Elt F) Λ₀ .tc) α}
    (c : Dev nD) (sm : SemLoc sig) (κ : ℕ) (n a : ℕ)
    {w : TpuEff nD τ sig (Elt F) Λ₀ .tc PUnit}
    (hw : ∀ Kw : PUnit → sProp 𝕄, wpE (defs₀ (F := F)) 𝒱₀ (c : Thread nD τ) none Set.univ w Kw = waitSpec (c : Thread nD τ) Set.univ sm a Kw)
    (ha : a = (rd P).expect ((c : Thread nD τ), sm) 0)
    (hlv : ∀ j : Fin 15, 15 ≤ j.val + n → lv ((c : Thread nD τ), sm) () < dueLv j) :
    iprop(cellInv ER (rd P) κ ((c : Thread nD τ), sm) ∗ atPos ER ((c : Thread nD τ), sm) 0 ∅ 0 ∗ cred (tallyAt ((c : Thread nD τ), sm) () a)
        ∗ owesX c (owe c n) ∗ levAts L lv)
      ⊢ iprop((owesX c (owe c n) -∗ bigSep ((rd P).duties ((c : Thread nD τ), sm) 0 \ ∅) (fun d => (rd P).payload ((c : Thread nD τ), sm) 0 d)
          -∗ semVal ((c : Thread nD τ), sm) 0 -∗ wp frame (wpE (defs₀ (F := F)) 𝒱₀ (c : Thread nD τ) none) Set.univ (k' ⟨⟩) Q)
        -∗ wp frame (wpE (defs₀ (F := F)) 𝒱₀ (c : Thread nD τ) none) Set.univ (.op w k') Q) := by
  unfold owesX
  iintro ⟨#Hi, Hat, Hc, ⟨%W, HO⟩, #Hlev⟩ Hk
  iapply (Rounds.wp_wait_rest_token 𝒱₀ ER (rd P) (c : Thread nD τ) none (κ := κ) hw (Set.mem_univ _) () (O := owe c n) (W := W) (R := 0) (m := 0) (T := ∅)
      (by rw [Nat.zero_add]; exact ha)) $$ [Hc HO Hat]
  · isplitr; · iexact Hi
    isplitl [Hc]; · iexact Hc
    isplitl [HO]; · iexact HO
    isplitr; · iapply (mayWait_owe c sm n hlv); iexact Hlev
    iexact Hat
  iintro ⟨HO, Hat, -, Hpay⟩
  imod (Rounds.cell_close ER (rd P) (Set.mem_univ κ) (fun h => h) (R := 0 + 1) (duties_later P _)) $$ [Hat] with Hz
  · isplitr; · iexact Hi
    iexact Hat
  iapply Hk $$ [HO] Hpay Hz
  iexists _; iexact HO

/-- The barrier wait brings slot `k` of partner `k`'s landing buffer, for each `k`. -/
theorem step_barW {α : Type} {Q : α → sProp 𝕄} {k' : PUnit → Prog (TpuEff nD τ sig (Elt F) Λ₀ .tc) α}
    (c : Dev nD) (a : ℕ) (ha : a = 5) (s : Sem sig) (hs : s = barS) :
    iprop(gBarW P K c ∗ owesX c (owe c 10) ∗ levAts L lv)
      ⊢ iprop((owesX c (owe c 10) -∗ (barPay 0 c ∗ barPay 1 c ∗ barPay 2 c ∗ barPay 3 c ∗ barPay 4 c)
          -∗ semVal (barC c) 0 -∗ wp frame (wpE (defs₀ (F := F)) 𝒱₀ (c : Thread nD τ) none) Set.univ (k' ⟨⟩) Q)
        -∗ wp frame (wpE (defs₀ (F := F)) 𝒱₀ (c : Thread nD τ) none) Set.univ (.op (.semWait s a) k') Q) := by
  subst ha hs
  have h := step_wait (k' := k') (Q := Q) P c (.reg barS) (K (c, 0)) 10 5 (wpE_semWait_eq 𝒱₀ (c : Thread nD τ) none Set.univ)
    (expect_bar P c).symm (by unfold lv; simp only [role_bar]; decide)
  rw [rest_bar] at h
  unfold gBarW
  iintro ⟨⟨Hi, Hat, Hc⟩, HO, Hl⟩ Hk
  iapply h $$ [Hi Hat Hc HO Hl] [Hk]
  · isplitl [Hi]; · iexact Hi
    isplitl [Hat]; · iexact Hat
    isplitl [Hc]; · iexact Hc
    isplitl [HO] <;> iassumption
  iexact Hk

/-- The closing wait. -/
theorem step_finW {α : Type} {Q : α → sProp 𝕄} {k' : PUnit → Prog (TpuEff nD τ sig (Elt F) Λ₀ .tc) α}
    (c : Dev nD) (a : ℕ) (ha : a = 5) (s : Sem sig) (hs : s = finS) :
    iprop(gFinW P K c ∗ owesX c (owe c 0) ∗ levAts L lv)
      ⊢ iprop((owesX c (owe c 0) -∗ semVal (finC c) 0 -∗ wp frame (wpE (defs₀ (F := F)) 𝒱₀ (c : Thread nD τ) none) Set.univ (k' ⟨⟩) Q)
        -∗ wp frame (wpE (defs₀ (F := F)) 𝒱₀ (c : Thread nD τ) none) Set.univ (.op (.semWait s a) k') Q) := by
  subst ha hs
  have h := step_wait (k' := k') (Q := Q) P c (.reg finS) (K (c, 1)) 0 5 (wpE_semWait_eq 𝒱₀ (c : Thread nD τ) none Set.univ)
    (expect_fin P c).symm (fun j hj => absurd j.2 (by omega))
  unfold gFinW
  iintro ⟨⟨Hi, Hat, Hc⟩, HO, Hl⟩ Hk
  iapply h $$ [Hi Hat Hc HO Hl] [Hk]
  · isplitl [Hi]; · iexact Hi
    isplitl [Hat]; · iexact Hat
    isplitl [Hc]; · iexact Hc
    isplitl [HO] <;> iassumption
  iintro HO - Hz
  iapply Hk $$ HO Hz

/-- A copy into a slot credits `N`. -/
theorem slot_amount (k : Fin 5) : (slotM k).view.amount (.dma (recvS k) : SemLoc sig) = N := rfl

/-- Round `k`'s copy: the send buffer and the partner's slot go in, the credit to wait for the departure comes out. -/
theorem step_copy {α : Type} {Q : α → sProp 𝕄} {k' : PUnit → Prog (TpuEff nD τ sig (Elt F) Λ₀ .tc) α}
    (k : Fin 5) (c n : Dev nD) (hn : n = pt k c) (sS rS : DmaSem sig) (hsS : sS = sendS k) (hrS : rS = recvS k)
    (dm : Memref sig .tc .vmem S8x66x128 .f32) (hdm : dm = slotM k)
    {hsc : dm.view.ref.isScScratch = false} {hsrc : pM.view.WordExact} {hdst : dm.view.WordExact}
    {hsem : DmaTarget.Typed .vmem (.dma rS) (.remote (Dev.tc n : Thread nD τ) dm (.dma sS) hsc)}
    (O O' : CellTallies nD τ sig Unit) (hO : O = O' + tallyAt (recvC k (pt k c)) () N) :
    iprop(gCopy P K k c ∗ pPts c (P k c) ∗ barPay k c ∗ owesX c O)
      ⊢ iprop((owesX c O' -∗ cred (tallyAt (sendC k c) () N)
            -∗ wp frame (wpE (defs₀ (F := F)) 𝒱₀ (c : Thread nD τ) none) Set.univ (k' ⟨⟩) Q)
        -∗ wp frame (wpE (defs₀ (F := F)) 𝒱₀ (c : Thread nD τ) none) Set.univ
          (.op (.enqueueDma pM (.remote (Dev.tc n : Thread nD τ) dm (.dma sS) hsc) (.dma rS) hsrc hdst hsem) k') Q) := by
  subst hn hsS hrS hdm
  unfold gCopy barPay owesX
  iintro ⟨⟨#HiS, #HiR, #HrS, #HrR, HtS, HtR⟩, Hp, ⟨%fd, Hd⟩, ⟨%W, HO⟩⟩ Hk
  unfold pPts slotPts
  iapply (Rounds.wp_send_pointsTo 𝒱₀ ER (rd P) (c : Thread nD τ) none (κ₁ := K (c, iS k)) (κ₂ := K (pt k c, iR k))
    (r₁ := 0) (r₂ := 0) (d₁ := 0) (d₂ := 0) (fs := P k c) (fd := fd) (q := fullShare)
    (by rw [duties_send]; exact Finset.mem_singleton_self _) (by rw [duties_recv]; exact Finset.mem_singleton_self _)
    () () N (slot_amount k) (amount_send P k c 0) (amount_recv P k (pt k c) 0) O' hO (W := W)
    (by rw [payload_send]; exact BI.Entails.refl _)
    (by rw [payload_recv]; unfold recvPay; rw [pt_pt]; exact Entails.of_eq (slotPts_landed k (pt k c) fd (P k c)))) $$ [Hp Hd HO HtS HtR]
  · isplitr; · iexact HiS
    isplitr; · iexact HiR
    isplitl [Hp]; · iexact Hp
    isplitl [Hd]; · iexact Hd
    isplitl [HO]; · iexact HO
    isplitl [HtS]; · iexact HtS
    isplitr; · iexact HrS
    isplitl [HtR]; · iexact HtR
    iexact HrR
  iintro ⟨Hc, HO⟩
  iapply Hk $$ [HO] Hc
  iexists W; iexact HO

/-- The wait for the departure of round `k`'s copy: the send buffer again, the cell at zero. -/
theorem step_sendW {α : Type} {Q : α → sProp 𝕄} {k' : PUnit → Prog (TpuEff nD τ sig (Elt F) Λ₀ .tc) α}
    (k : Fin 5) (c : Dev nD) (n : ℕ) (hn : n ≤ 10) (sS : DmaSem sig) (hsS : sS = sendS k)
    (sm : Memref sig .tc .vmem S8x66x128 .f32) {h₁ : sm.view.WordExact} {h₂ : pM.view.WordExact} :
    iprop(gSend P K k c ∗ cred (tallyAt (sendC k c) () N) ∗ owesX c (owe c n) ∗ levAts L lv)
      ⊢ iprop((owesX c (owe c n) -∗ pPts c (P k c) -∗ semVal (sendC k c) 0
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sS sm pM h₁ h₂) k') Q) := by
  subst hsS
  have h := step_wait (k' := k') (Q := Q) P c (.dma (sendS k)) (K (c, iS k)) n N
    (w := .waitDma2 (sendS k) sm pM h₁ h₂) (wpE_waitDma2_eq 𝒱₀ (c : Thread nD τ) none Set.univ)
    (expect_send P k c).symm (fun j hj => by
      unfold lv; simp only [role_send]
      have : ∀ j : Fin 15, 5 ≤ j.val → 0 < dueLv j := by decide
      exact this j (by omega))
  rw [rest_send] at h
  unfold gSend
  iintro ⟨⟨Hi, Hat⟩, Hc, HO, Hl⟩ Hk
  iapply h $$ [Hi Hat Hc HO Hl] [Hk]
  · isplitl [Hi]; · iexact Hi
    isplitl [Hat]; · iexact Hat
    isplitl [Hc]; · iexact Hc
    isplitl [HO] <;> iassumption
  iexact Hk

/-- The wait for the arrival of round `k`'s copy: slot `k` holding the partner's state, the cell at zero. -/
theorem step_recvW {α : Type} {Q : α → sProp 𝕄} {k' : PUnit → Prog (TpuEff nD τ sig (Elt F) Λ₀ .tc) α}
    (k : Fin 5) (c : Dev nD) (n : ℕ) (hn : n + k.val ≤ 9) (rS : DmaSem sig) (hrS : rS = recvS k)
    (dm : Memref sig .tc .vmem S8x66x128 .f32) (hdm : dm = slotM k) {h₁ : pM.view.WordExact} {h₂ : dm.view.WordExact} :
    iprop(gRecv P K k c ∗ owesX c (owe c n) ∗ levAts L lv)
      ⊢ iprop((owesX c (owe c n) -∗ slotPts k c (landed k (P k (pt k c))) -∗ semVal (recvC k c) 0
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 rS pM dm h₁ h₂) k') Q) := by
  subst hrS hdm
  have h := step_wait (k' := k') (Q := Q) P c (.dma (recvS k)) (K (c, iR k)) n N
    (w := .waitDma2 (recvS k) pM (slotM k) h₁ h₂) (wpE_waitDma2_eq 𝒱₀ (c : Thread nD τ) none Set.univ)
    (expect_recv P k c).symm (fun j hj => by
      unfold lv; simp only [role_recv]
      have : ∀ k : Fin 5, ∀ j : Fin 15, 6 + k.val ≤ j.val → 2 + k.val < dueLv j := by decide
      exact this k j (by omega))
  rw [rest_recv] at h
  unfold gRecv
  iintro ⟨⟨Hi, Hat, Hc⟩, HO, Hl⟩ Hk
  iapply h $$ [Hi Hat Hc HO Hl] [Hk]
  · isplitl [Hi]; · iexact Hi
    isplitl [Hat]; · iexact Hat
    isplitl [Hc]; · iexact Hc
    isplitl [HO] <;> iassumption
  iexact Hk

end Steps

end Cert.KernelIdealProof

end
-- ==== Proof.Contents.lean ====
/-
# What the buffers hold

The softmax state of a device (`Sm`): for each of the eight (batch, head) pairs the accumulator (transposed), the
row maxima and the row sums. A device computes the state of its own block of keys (`own`), merges it in each of five
rounds with its partner's (`mrg`, `St`), and projects the last one (`outV`). This module also says how a state lies
in the send buffer (`pack`), that the kernel's stores leave exactly that, and that its loads read it back.
-/
module

public import proofs.«01_k».proof.Proof.Protocol
public import Idealize.ShloMosaic.Lib.Pipeline.Value
public import Idealize.ShloMosaic.Lib.Writes
public import Idealize.ShloMosaic.Lib.Pointwise.Index
public import Idealize.ShloMosaic.Lib.ValueLayout

@[expose] public section

noncomputable section

namespace Cert.KernelIdealProof

open Cert.KernelIdeal Cert.KernelIdeal.Gen

open Idealize.ShloMosaic

variable {F : FTy → Type} [FloatOps F]

/-- A softmax state: accumulators, row maxima and row sums of the eight (batch, head) pairs. -/
structure Sm (F : FTy → Type) where
  a : FVec F S8x64x128 .f32
  m : FVec F S8x1x128 .f32
  l : FVec F S8x1x128 .f32

/-- What a device's five inputs hold. -/
structure Inp (F : FTy → Type) [FloatOps F] where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-- A state as it lies in the send buffer: rows 0 to 63 the accumulators, row 64 the maxima, row 65 the sums. -/
def pack (s : Sm F) : PBuf F := fun y : S8x66x128.Idx =>
  if h : (y 1).val < 64 then s.a (ix3 (n0 := 8) (n1 := 64) (n2 := 128) (y 0) ⟨(y 1).val, h⟩ (y 2))
  else if (y 1).val = 64 then s.m (ix3 (n0 := 8) (n1 := 1) (n2 := 128) (y 0) 0 (y 2))
  else s.l (ix3 (n0 := 8) (n1 := 1) (n2 := 128) (y 0) 0 (y 2))

/-- Two states merged: the maxima's maximum, sums and accumulators rescaled to it and added. -/
def mrg (s t : Sm F) : Sm F where
  a := addf (mulf s.a (broadcastTo S8x64x128 (exp (subf s.m (maximumf s.m t.m))) broadcasts_S8x1x128_S8x64x128))
    (mulf t.a (broadcastTo S8x64x128 (exp (subf t.m (maximumf s.m t.m))) broadcasts_S8x1x128_S8x64x128))
  m := maximumf s.m t.m
  l := addf (mulf s.l (exp (subf s.m (maximumf s.m t.m)))) (mulf t.l (exp (subf t.m (maximumf s.m t.m))))

/-! ### The state of one block of keys -/

/-- The block pattern's mask on device `c`. -/
def msk (c : Dev nD) : IVec S128x128 1 :=
  k0_pay6 (k0_pay4 (iota .tc S128x128 32 [0] iota_S128x128_d0_w32) 64#32 k0_pay2 k0_pay3)
    (Scalar.muli 2#32 (Scalar.remsi (Scalar.divsi (Dev.word c) 1#32) 32#32)) k0_pay5

set_option backward.proofsInPublic true in
theorem inb_x (b : Fin 2) : ∀ a, (![b.val, 0, 0] : Fin 3 → Nat) a + S1x128x512.size a ≤ S2x128x512.size a := by revert b; decide
set_option backward.proofsInPublic true in
theorem inb_kv (b : Fin 2) (h : Fin 4) : ∀ a, (![b.val, 0, h.val, 0] : Fin 4 → Nat) a + S1x128x1x64.size a ≤ S2x128x4x64.size a := by
  revert b h; decide
set_option backward.proofsInPublic true in
theorem slices_q (h : Fin 4) : S128x256.Slices ![0, 64 * h.val] S128x64 := by revert h; decide
set_option backward.proofsInPublic true in
theorem inb_wo (h : Fin 4) : ∀ a, (![64 * h.val, 0] : Fin 2 → Nat) a + S64x512.size a ≤ S256x512.size a := by revert h; decide
set_option backward.proofsInPublic true in
theorem inb_pa (b : Fin 2) (h : Fin 4) : ∀ a, (![4 * b.val + h.val, 0, 0] : Fin 3 → Nat) a + S1x64x128.size a ≤ S8x66x128.size a := by
  revert b h; decide
set_option backward.proofsInPublic true in
theorem inb_pm (b : Fin 2) (h : Fin 4) : ∀ a, (![4 * b.val + h.val, 64, 0] : Fin 3 → Nat) a + S1x1x128.size a ≤ S8x66x128.size a := by
  revert b h; decide
set_option backward.proofsInPublic true in
theorem inb_pl (b : Fin 2) (h : Fin 4) : ∀ a, (![4 * b.val + h.val, 65, 0] : Fin 3 → Nat) a + S1x1x128.size a ≤ S8x66x128.size a := by
  revert b h; decide

/-- The projected queries of batch element `b`. -/
def qP (x : Inp F) (b : Fin 2) : FVec F S128x256 .f32 :=
  k0_pay7 (k0_pay1 ((Memref.whole cc0_stg1_0).view.readAt (Elt F) (Rect.unit (s := S512x256) ![0, 0] S512x256.size inb_S512x256_S512x256_0_0).toLoadRect x.wq))
    ((Memref.whole cc0_stg0_0).view.readAt (Elt F) (Rect.unit (s := S2x128x512) ![b.val, 0, 0] S1x128x512.size (inb_x b)).toLoadRect x.x)

/-- The block of keys of (`b`, `h`); -/
def kB (x : Inp F) (b : Fin 2) (h : Fin 4) : FVec F S128x64 .f32 :=
  shapeCast S128x64 ((Memref.whole cc0_stg2_0).view.readAt (Elt F) (Rect.unit (s := S2x128x4x64) ![b.val, 0, h.val, 0] S1x128x1x64.size (inb_kv b h)).toLoadRect x.k)
    shapeCasts_S1x128x1x64_S128x64

/-- and the values'. -/
def vB (x : Inp F) (b : Fin 2) (h : Fin 4) : FVec F S128x64 .f32 :=
  shapeCast S128x64 ((Memref.whole cc0_stg3_0).view.readAt (Elt F) (Rect.unit (s := S2x128x4x64) ![b.val, 0, h.val, 0] S1x128x1x64.size (inb_kv b h)).toLoadRect x.v)
    shapeCasts_S1x128x1x64_S128x64

/-- The masked scores of one block of keys. -/
def scr (x : Inp F) (c : Dev nD) (b : Fin 2) (h : Fin 4) : FVec F S128x128 .f32 :=
  select (msk c)
    (mulf (matmul dot_S128x64_S128x64_S128x128_1_1_0_0_n_n none (extractStridedSlice S128x64 ![0, 64 * h.val] (qP x b) (slices_q h)) (kB x b h)
      (constant S128x128 .f32 0x00000000#32)) (broadcast S128x128 (Scalar.ofBits .f32 0x3E000000#32)))
    (broadcast S128x128 (Scalar.ofBits .f32 0xCE6E6B28#32))

/-- Their row maxima, -/
def bM (x : Inp F) (c : Dev nD) (b : Fin 2) (h : Fin 4) : FVec F S128 .f32 :=
  multiReduction .maximumf [1] S128 (scr x c b h) 0xFF800000#32 reduces_S128x128_S128 (.inl rfl) rfl

/-- the exponentials of the scores less their row's maximum, -/
def bE (x : Inp F) (c : Dev nD) (b : Fin 2) (h : Fin 4) : FVec F S128x128 .f32 :=
  exp (subf (scr x c b h) (broadcastTo S128x128 (shapeCast S128x1 (bM x c b h) shapeCasts_S128_S128x1) broadcasts_S128x1_S128x128))

/-- their row sums, -/
def bL (x : Inp F) (c : Dev nD) (b : Fin 2) (h : Fin 4) : FVec F S128 .f32 :=
  multiReduction .add [1] S128 (bE x c b h) 0x00000000#32 reduces_S128x128_S128 (.inl rfl) rfl

/-- and the values weighted by them, transposed. -/
def bA (x : Inp F) (c : Dev nD) (b : Fin 2) (h : Fin 4) : FVec F S64x128 .f32 :=
  matmul dot_S128x64_S128x128_S64x128_0_1_1_0_n_n none (vB x b h) (bE x c b h) (constant S64x128 .f32 0x00000000#32)

/-- The batch element of a (batch, head) pair -/
def rb (r : Fin 8) : Fin 2 := ⟨r.val / 4, by omega⟩
/-- and its head. -/
def rh (r : Fin 8) : Fin 4 := ⟨r.val % 4, by omega⟩

/-- The state of a device's own block of keys. -/
def own (x : Inp F) (c : Dev nD) : Sm F where
  a := fun y => bA x c (rb (y 0)) (rh (y 0)) (ix2 (n0 := 64) (n1 := 128) (y 1) (y 2))
  m := fun y => bM x c (rb (y 0)) (rh (y 0)) (ix1 (n0 := 128) (y 2))
  l := fun y => bL x c (rb (y 0)) (rh (y 0)) (ix1 (n0 := 128) (y 2))

/-- The state of device `c` before round `n` (after all of them for `n` from five on). -/
def St (X : Dev nD → Inp F) : ℕ → Dev nD → Sm F
  | 0, c => own (X c) c
  | n + 1, c => if h : n < 5 then mrg (St X n c) (St X n (pt ⟨n, h⟩ c)) else St X n c

/-- A round merges the partner's state into one's own. -/
theorem St_succ (X : Dev nD → Inp F) (k : Fin 5) (c : Dev nD) : St X (k.val + 1) c = mrg (St X k.val c) (St X k.val (pt k c)) := by
  rw [St, dif_pos k.isLt]

/-- The send buffer's contents before round `k`. -/
def PP (X : Dev nD → Inp F) (k : Fin 5) (c : Dev nD) : PBuf F := pack (St X k.val c)

/-! ### The projection -/

/-- One head's normalized context projected. -/
def hd (a : Vec F S1x64x128 .f32) (l : Vec F S1x1x128 .f32) (w : Vec F S64x512 .f32) : FVec F S128x512 .f32 :=
  matmul dot_S64x128_S64x512_S128x512_0_0_1_1_n_n none
    (divf (shapeCast S64x128 a shapeCasts_S1x64x128_S64x128) (broadcastTo S64x128 (shapeCast S1x128 l shapeCasts_S1x1x128_S1x128) broadcasts_S1x128_S64x128))
    (shapeCast S64x512 w shapeCasts_S64x512_S64x512) (constant S128x512 .f32 0x00000000#32)

/-- Rows of one head of the projection weights. -/
def woB (f : (cc0_stg4_0 : Ref sig .tc).ty.Contents (Elt F)) (h : Fin 4) : Vec F S64x512 .f32 :=
  (Memref.whole cc0_stg4_0).view.readAt (Elt F) (Rect.unit (s := S256x512) ![64 * h.val, 0] S64x512.size (inb_wo h)).toLoadRect f

/-- The accumulator of (`b`, `h`) in a state, -/
def rowA (s : Sm F) (b : Fin 2) (h : Fin 4) : Vec F S1x64x128 .f32 := fun y => s.a (ix3 (n0 := 8) (n1 := 64) (n2 := 128) ⟨4 * b.val + h.val, by omega⟩ (y 1) (y 2))
/-- and its sums. -/
def rowL (s : Sm F) (b : Fin 2) (h : Fin 4) : Vec F S1x1x128 .f32 := fun y => s.l (ix3 (n0 := 8) (n1 := 1) (n2 := 128) ⟨4 * b.val + h.val, by omega⟩ 0 (y 2))

/-- The output of batch element `b`: its four heads' contributions added in order. -/
def proj (s : Sm F) (f : (cc0_stg4_0 : Ref sig .tc).ty.Contents (Elt F)) (b : Fin 2) : FVec F S128x512 .f32 :=
  addf (addf (addf (hd (rowA s b 0) (rowL s b 0) (woB f 0)) (hd (rowA s b 1) (rowL s b 1) (woB f 1)))
    (hd (rowA s b 2) (rowL s b 2) (woB f 2))) (hd (rowA s b 3) (rowL s b 3) (woB f 3))

/-- The kernel's result from the last state. -/
def outV (s : Sm F) (f : (cc0_stg4_0 : Ref sig .tc).ty.Contents (Elt F)) : (cc0_stg5_0 : Ref sig .tc).ty.Contents (Elt F) :=
  fun y : S2x128x512.Idx => proj s f (y 0) (ix2 (n0 := 128) (n1 := 512) (y 1) (y 2))

/-! ### The stores leave a packed state -/

attribute [local irreducible] bM bL bA

/-- The three stores of (`b`, `h`), newest first. -/
def pcs (x : Inp F) (c : Dev nD) (b : Fin 2) (h : Fin 4) : List (View.Piece (Elt F) S8x66x128 .f32) :=
  [⟨Rect.unit (s := S8x66x128) ![4 * b.val + h.val, 65, 0] S1x1x128.size (inb_pl b h), shapeCast S1x1x128 (bL x c b h) shapeCasts_S128_S1x1x128⟩,
   ⟨Rect.unit (s := S8x66x128) ![4 * b.val + h.val, 64, 0] S1x1x128.size (inb_pm b h), shapeCast S1x1x128 (bM x c b h) shapeCasts_S128_S1x1x128⟩,
   ⟨Rect.unit (s := S8x66x128) ![4 * b.val + h.val, 0, 0] S1x64x128.size (inb_pa b h), shapeCast S1x64x128 (bA x c b h) shapeCasts_S64x128_S1x64x128⟩]

/-- All twenty-four of them. -/
def allPcs (x : Inp F) (c : Dev nD) : List (View.Piece (Elt F) S8x66x128 .f32) :=
  pcs x c 1 3 ++ (pcs x c 1 2 ++ (pcs x c 1 1 ++ (pcs x c 1 0 ++ (pcs x c 0 3 ++ (pcs x c 0 2 ++ (pcs x c 0 1 ++ pcs x c 0 0))))))

theorem rb_rh (b : Fin 2) (h : Fin 4) (r : Fin 8) (hr : r.val = 4 * b.val + h.val) : rb r = b ∧ rh r = h := by
  constructor <;> apply Fin.ext <;> simp only [rb, rh] <;> omega

/-- A vector stored as a [1, 1, 128] block reads its own place. -/
theorem cast_row (v : FVec F S128 .f32) (x : S1x1x128.Idx) : shapeCast S1x1x128 v shapeCasts_S128_S1x1x128 x = v (ix1 (n0 := 128) (x 2)) := by
  refine shapeCast_apply _ _ _ _ ?_
  have h0 : (x 0).val = 0 := by have := (x 0).isLt; simp at this; omega
  have h1 : (x 1).val = 0 := by have := (x 1).isLt; simp at this; omega
  rw [Shape.rowMajor_val_one, Shape.rowMajor_val_three]
  simp [h0, h1]

/-- The packed state at an accumulator's row, -/
theorem pack_a (s : Sm F) (y : S8x66x128.Idx) (h : (y 1).val < 64) :
    pack s y = s.a (ix3 (n0 := 8) (n1 := 64) (n2 := 128) (y 0) ⟨(y 1).val, h⟩ (y 2)) := dif_pos h

/-- at the maxima's row, -/
theorem pack_m (s : Sm F) (y : S8x66x128.Idx) (h : (y 1).val = 64) :
    pack s y = s.m (ix3 (n0 := 8) (n1 := 1) (n2 := 128) (y 0) 0 (y 2)) :=
  (dif_neg (by omega)).trans (if_pos h)

/-- and at the sums'. -/
theorem pack_l (s : Sm F) (y : S8x66x128.Idx) (h : (y 1).val = 65) :
    pack s y = s.l (ix3 (n0 := 8) (n1 := 1) (n2 := 128) (y 0) 0 (y 2)) :=
  (dif_neg (by omega)).trans (if_neg (by omega))

/-- A device's own accumulator of pair (`b`, `h`). -/
theorem own_at_a_aux (x : Inp F) (c : Dev nD) (b : Fin 2) (h : Fin 4) (r : Fin 8) (j : Fin 64) (q : Fin 128) (h0 : r.val = 4 * b.val + h.val) :
    (own x c).a (ix3 r j q) = bA x c b h (ix2 j q) := by
  obtain ⟨rfl, rfl⟩ := rb_rh b h r h0
  rfl

/-- A device's own state, packed, at a place of pair (`b`, `h`): the accumulators' rows, -/
theorem own_at_a (x : Inp F) (c : Dev nD) (b : Fin 2) (h : Fin 4) (y : S8x66x128.Idx) (j : Fin 64) (q : Fin 128)
    (h0 : (y 0).val = 4 * b.val + h.val) (h1 : (y 1).val = j.val) (h2 : (y 2).val = q.val) :
    pack (own x c) y = bA x c b h (ix2 j q) := by
  have hlt : (y 1).val < 64 := by omega
  have ej : (⟨(y 1).val, hlt⟩ : Fin 64) = j := Fin.ext h1
  have eq : (y 2 : Fin 128) = q := Fin.ext h2
  rw [pack_a _ y hlt, ej]
  refine Eq.trans ?_ (own_at_a_aux x c b h (y 0) j q h0)
  rw [← eq]

/-- the maxima's row -/
theorem own_at_m (x : Inp F) (c : Dev nD) (b : Fin 2) (h : Fin 4) (y : S8x66x128.Idx) (q : Fin 128)
    (h0 : (y 0).val = 4 * b.val + h.val) (h1 : (y 1).val = 64) (h2 : (y 2).val = q.val) :
    pack (own x c) y = bM x c b h (ix1 q) := by
  obtain ⟨e1, e2⟩ := rb_rh b h (y 0) h0
  rw [pack_m _ y h1]
  show bM x c (rb (y 0)) (rh (y 0)) (ix1 (n0 := 128) (y 2)) = _
  rw [e1, e2]
  exact congrArg _ (congrArg ix1 (Fin.ext h2))

/-- and the sums'. -/
theorem own_at_l (x : Inp F) (c : Dev nD) (b : Fin 2) (h : Fin 4) (y : S8x66x128.Idx) (q : Fin 128)
    (h0 : (y 0).val = 4 * b.val + h.val) (h1 : (y 1).val = 65) (h2 : (y 2).val = q.val) :
    pack (own x c) y = bL x c b h (ix1 q) := by
  obtain ⟨e1, e2⟩ := rb_rh b h (y 0) h0
  rw [pack_l _ y h1]
  show bL x c (rb (y 0)) (rh (y 0)) (ix1 (n0 := 128) (y 2)) = _
  rw [e1, e2]
  exact congrArg _ (congrArg ix1 (Fin.ext h2))

/-- Each of the three stores agrees with the packed state. -/
theorem pcs_agree (x : Inp F) (c : Dev nD) (b : Fin 2) (h : Fin 4) :
    ∀ p ∈ pcs x c b h, ∀ z : p.1.shape.Idx, p.2 z = pack (own x c) (p.1.emb z) := by
  intro p hp
  simp only [pcs, List.mem_cons, List.not_mem_nil, or_false] at hp
  rcases hp with rfl | rfl | rfl <;> intro z
  · have h0 : (z 0).val < 1 := (z 0).isLt
    have h1 : (z 1).val < 1 := (z 1).isLt
    exact (cast_row (bL x c b h) z).trans (own_at_l x c b h _ (z 2) (show 4 * b.val + h.val + 1 * (z 0).val = _ by omega)
      (show 65 + 1 * (z 1).val = 65 by omega) (show 0 + 1 * (z 2).val = (z 2).val by omega)).symm
  · have h0 : (z 0).val < 1 := (z 0).isLt
    have h1 : (z 1).val < 1 := (z 1).isLt
    have e1 : ((Rect.unit (s := S8x66x128) ![4 * b.val + h.val, 64, 0] S1x1x128.size (inb_pm b h)).emb z 1).val = 64 := by
      show 64 + 1 * (z 1).val = 64; omega
    exact (cast_row (bM x c b h) z).trans (own_at_m x c b h _ (z 2) (show 4 * b.val + h.val + 1 * (z 0).val = _ by omega) e1
      (show 0 + 1 * (z 2).val = (z 2).val by omega)).symm
  · have h0 : (z 0).val < 1 := (z 0).isLt
    let j : Fin 64 := z 1
    let q : Fin 128 := z 2
    have e := own_at_a x c b h ((Rect.unit (s := S8x66x128) ![4 * b.val + h.val, 0, 0] S1x64x128.size (inb_pa b h)).emb z) j q
      (show 4 * b.val + h.val + 1 * (z 0).val = 4 * b.val + h.val by omega) ((Nat.zero_add _).trans (Nat.one_mul _)) ((Nat.zero_add _).trans (Nat.one_mul _))
    refine Eq.trans ?_ e.symm
    refine (shapeCast_addUnit_apply (n := 2) ![64, 128] (bA x c b h) shapeCasts_S64x128_S1x64x128 z).trans ?_
    exact congrArg (bA x c b h) (eq_ix2 (n0 := 64) (n1 := 128) fun a => z a.succ)

/-- Stores that agree with a state and reach every place leave it packed, whatever lay there before. -/
theorem writes_pack (f : PBuf F) (G : PBuf F) (L : List (View.Piece (Elt F) S8x66x128 .f32))
    (hL : ∀ p ∈ L, ∀ z : p.1.shape.Idx, p.2 z = G (p.1.emb z)) (hc : ∀ y : S8x66x128.Idx, ∃ p ∈ L, y ∈ p.1.set) :
    pM.view.writes (Elt F) f L = G :=
  funext fun y => pM.view.read_writes_apply_of_pieces (Val := Elt F) f G L hL y (hc y)

/-- A place within a unit rectangle's bounds is in it. -/
theorem mem_unit {s : Shape} (off size : Fin s.rank → Nat) (inb) (y : s.Idx) (h : ∀ a, off a ≤ (y a).val ∧ (y a).val < off a + size a) :
    y ∈ (Rect.unit off size inb).set := by
  rw [← Rect.map_emb_univ]
  refine Finset.mem_map.mpr ⟨fun a => ⟨(y a).val - off a, by have := h a; show _ < size a; omega⟩, Finset.mem_univ _, ?_⟩
  funext a
  refine Fin.ext ?_
  show off a + 1 * ((y a).val - off a) = (y a).val
  have := h a; omega

/-- The pair of a row of the state. -/
theorem rb_rh_val (r : Fin 8) : 4 * (rb r).val + (rh r).val = r.val := by simp only [rb, rh]; omega

theorem mem_allPcs (x : Inp F) (c : Dev nD) (b : Fin 2) (h : Fin 4) (p : View.Piece (Elt F) S8x66x128 .f32) (hp : p ∈ pcs x c b h) :
    p ∈ allPcs x c := by
  simp only [allPcs, List.mem_append]
  fin_cases b <;> fin_cases h <;> simp only [Fin.zero_eta, Fin.mk_one, Fin.reduceFinMk, Fin.isValue] at hp <;> tauto

/-- The twenty-four stores of a device's own state leave it packed in the send buffer. -/
theorem own_writes (x : Inp F) (c : Dev nD) (f : PBuf F) : pM.view.writes (Elt F) f (allPcs x c) = pack (own x c) := by
  refine writes_pack f _ _ (fun p hp => ?_) fun y => ?_
  · simp only [allPcs, List.mem_append] at hp
    rcases hp with hp | hp | hp | hp | hp | hp | hp | hp <;> exact pcs_agree x c _ _ p hp
  · have hr := rb_rh_val (y 0)
    have h1 : (y 1).val < 66 := (y 1).isLt
    have h2 : (y 2).val < 128 := (y 2).isLt
    by_cases ha : (y 1).val < 64
    · refine ⟨_, mem_allPcs x c (rb (y 0)) (rh (y 0)) _ (List.mem_cons_of_mem _ (List.mem_cons_of_mem _ List.mem_cons_self)), mem_unit _ _ (inb_pa _ _) y fun a => ?_⟩
      match a with
      | ⟨0, _⟩ => show 4 * (rb (y 0)).val + (rh (y 0)).val ≤ (y 0).val ∧ (y 0).val < 4 * (rb (y 0)).val + (rh (y 0)).val + 1; omega
      | ⟨1, _⟩ => show 0 ≤ (y 1).val ∧ (y 1).val < 0 + 64; omega
      | ⟨2, _⟩ => show 0 ≤ (y 2).val ∧ (y 2).val < 0 + 128; omega
    by_cases hm : (y 1).val = 64
    · refine ⟨_, mem_allPcs x c (rb (y 0)) (rh (y 0)) _ (List.mem_cons_of_mem _ List.mem_cons_self), mem_unit _ _ (inb_pm _ _) y fun a => ?_⟩
      match a with
      | ⟨0, _⟩ => show 4 * (rb (y 0)).val + (rh (y 0)).val ≤ (y 0).val ∧ (y 0).val < 4 * (rb (y 0)).val + (rh (y 0)).val + 1; omega
      | ⟨1, _⟩ => show 64 ≤ (y 1).val ∧ (y 1).val < 64 + 1; omega
      | ⟨2, _⟩ => show 0 ≤ (y 2).val ∧ (y 2).val < 0 + 128; omega
    · refine ⟨_, mem_allPcs x c (rb (y 0)) (rh (y 0)) _ List.mem_cons_self, mem_unit _ _ (inb_pl _ _) y fun a => ?_⟩
      match a with
      | ⟨0, _⟩ => show 4 * (rb (y 0)).val + (rh (y 0)).val ≤ (y 0).val ∧ (y 0).val < 4 * (rb (y 0)).val + (rh (y 0)).val + 1; omega
      | ⟨1, _⟩ => show 65 ≤ (y 1).val ∧ (y 1).val < 65 + 1; omega
      | ⟨2, _⟩ => show 0 ≤ (y 2).val ∧ (y 2).val < 0 + 128; omega

/-! ### The loads read a state back -/

/-- The accumulators of a packed state, -/
theorem ld_a (s : Sm F) : pM.view.readAt (Elt F) (Rect.unit (s := S8x66x128) ![0, 0, 0] S8x64x128.size inb_S8x66x128_S8x64x128_0_0_0).toLoadRect (pack s) = s.a := by
  funext z
  have h1 : (z 1).val < 64 := (z 1).isLt
  refine (pack_a s ((Rect.unit (s := S8x66x128) ![0, 0, 0] S8x64x128.size inb_S8x66x128_S8x64x128_0_0_0).emb z) (show 0 + 1 * (z 1).val < 64 by omega)).trans ?_
  refine congrArg s.a ?_
  refine Eq.trans ?_ (ix3_eta (n0 := 8) (n1 := 64) (n2 := 128) z)
  congr 1 <;> refine Fin.ext ?_
  · show 0 + 1 * (z 0).val = _; omega
  · show 0 + 1 * (z 1).val = _; omega
  · show 0 + 1 * (z 2).val = _; omega

/-- its maxima, -/
theorem ld_m (s : Sm F) : pM.view.readAt (Elt F) (Rect.unit (s := S8x66x128) ![0, 64, 0] S8x1x128.size inb_S8x66x128_S8x1x128_0_64_0).toLoadRect (pack s) = s.m := by
  funext z
  have h1 : (z 1).val < 1 := (z 1).isLt
  refine (pack_m s ((Rect.unit (s := S8x66x128) ![0, 64, 0] S8x1x128.size inb_S8x66x128_S8x1x128_0_64_0).emb z) (show 64 + 1 * (z 1).val = 64 by omega)).trans ?_
  refine congrArg s.m ?_
  refine Eq.trans ?_ (ix3_eta (n0 := 8) (n1 := 1) (n2 := 128) z)
  congr 1 <;> refine Fin.ext ?_
  · show 0 + 1 * (z 0).val = _; omega
  · show 0 = (z 1).val; omega
  · show 0 + 1 * (z 2).val = _; omega

/-- and its sums. -/
theorem ld_l (s : Sm F) : pM.view.readAt (Elt F) (Rect.unit (s := S8x66x128) ![0, 65, 0] S8x1x128.size inb_S8x66x128_S8x1x128_0_65_0).toLoadRect (pack s) = s.l := by
  funext z
  have h1 : (z 1).val < 1 := (z 1).isLt
  refine (pack_l s ((Rect.unit (s := S8x66x128) ![0, 65, 0] S8x1x128.size inb_S8x66x128_S8x1x128_0_65_0).emb z) (show 65 + 1 * (z 1).val = 65 by omega)).trans ?_
  refine congrArg s.l ?_
  refine Eq.trans ?_ (ix3_eta (n0 := 8) (n1 := 1) (n2 := 128) z)
  congr 1 <;> refine Fin.ext ?_
  · show 0 + 1 * (z 0).val = _; omega
  · show 0 = (z 1).val; omega
  · show 0 + 1 * (z 2).val = _; omega

/-- One pair's accumulator -/
theorem ld_rowA (s : Sm F) (b : Fin 2) (h : Fin 4) :
    pM.view.readAt (Elt F) (Rect.unit (s := S8x66x128) ![4 * b.val + h.val, 0, 0] S1x64x128.size (inb_pa b h)).toLoadRect (pack s) = rowA s b h := by
  funext z
  have h0 : (z 0).val < 1 := (z 0).isLt
  have h1 : (z 1).val < 64 := (z 1).isLt
  refine (pack_a s ((Rect.unit (s := S8x66x128) ![4 * b.val + h.val, 0, 0] S1x64x128.size (inb_pa b h)).emb z) (show 0 + 1 * (z 1).val < 64 by omega)).trans ?_
  refine congrArg s.a ?_
  congr 1 <;> refine Fin.ext ?_
  · show 4 * b.val + h.val + 1 * (z 0).val = 4 * b.val + h.val; omega
  · show 0 + 1 * (z 1).val = (z 1).val; omega
  · show 0 + 1 * (z 2).val = (z 2).val; omega

/-- and its sums. -/
theorem ld_rowL (s : Sm F) (b : Fin 2) (h : Fin 4) :
    pM.view.readAt (Elt F) (Rect.unit (s := S8x66x128) ![4 * b.val + h.val, 65, 0] S1x1x128.size (inb_pl b h)).toLoadRect (pack s) = rowL s b h := by
  funext z
  have h0 : (z 0).val < 1 := (z 0).isLt
  have h1 : (z 1).val < 1 := (z 1).isLt
  refine (pack_l s ((Rect.unit (s := S8x66x128) ![4 * b.val + h.val, 65, 0] S1x1x128.size (inb_pl b h)).emb z) (show 65 + 1 * (z 1).val = 65 by omega)).trans ?_
  refine congrArg s.l ?_
  congr 1 <;> refine Fin.ext ?_
  · show 4 * b.val + h.val + 1 * (z 0).val = 4 * b.val + h.val; omega
  · show 0 + 1 * (z 2).val = (z 2).val; omega

/-- Place `z` of slot `k` in the landing buffer. -/
theorem slot_emb (k : Fin 5) (z : S8x66x128.Idx) (y : S5x8x66x128.Idx) (h0 : (y 0).val = k.val) (h1 : (y 1).val = (z 0).val)
    (h2 : (y 2).val = (z 1).val) (h3 : (y 3).val = (z 2).val) : (slotM k).view.emb z = y := by
  have e : Shape.reshapeEquiv (s := S1x8x66x128) (s' := S8x66x128) (by decide) z = (ix4 (n0 := 1) (n1 := 8) (n2 := 66) (n3 := 128) 0 (z 0) (z 1) (z 2) : S1x8x66x128.Idx) :=
    (congrArg _ (eq_ix3 (n0 := 8) (n1 := 66) (n2 := 128) z)).trans (ValueIdx.reshapeEquiv_ix3_1abc (a := 8) (b := 66) (c := 128) (by decide) (z 0) (z 1) (z 2))
  show (Rect.unit (s := S5x8x66x128) ![k.val, 0, 0, 0] S1x8x66x128.size (inb_slot k)).emb (Shape.reshapeEquiv (s := S1x8x66x128) (s' := S8x66x128) _ z) = y
  rw [e]
  funext a
  refine Fin.ext ?_
  match a with
  | ⟨0, _⟩ => show k.val + 1 * 0 = (y 0).val; omega
  | ⟨1, _⟩ => show 0 + 1 * (z 0).val = (y 1).val; omega
  | ⟨2, _⟩ => show 0 + 1 * (z 1).val = (y 2).val; omega
  | ⟨3, _⟩ => show 0 + 1 * (z 2).val = (y 3).val; omega

/-- A landed state read at a place of its slot is the state at the place within. -/
theorem landed_apply (k : Fin 5) (f : PBuf F) (y : S5x8x66x128.Idx) (z : S8x66x128.Idx) (h0 : (y 0).val = k.val) (h1 : (y 1).val = (z 0).val)
    (h2 : (y 2).val = (z 1).val) (h3 : (y 3).val = (z 2).val) : (landed k f : CBuf F) y = f z := by
  rw [← slot_emb k z y h0 h1 h2 h3]
  exact (slotM k).view.write_emb_of_mem _ _ (Finset.mem_univ z)

set_option backward.proofsInPublic true in
theorem inb_ca (k : Fin 5) : ∀ a, (![k.val, 0, 0, 0] : Fin 4 → Nat) a + S1x8x64x128.size a ≤ S5x8x66x128.size a := by revert k; decide
set_option backward.proofsInPublic true in
theorem inb_cm (k : Fin 5) : ∀ a, (![k.val, 0, 64, 0] : Fin 4 → Nat) a + S1x8x1x128.size a ≤ S5x8x66x128.size a := by revert k; decide
set_option backward.proofsInPublic true in
theorem inb_cl (k : Fin 5) : ∀ a, (![k.val, 0, 65, 0] : Fin 4 → Nat) a + S1x8x1x128.size a ≤ S5x8x66x128.size a := by revert k; decide

/-- The accumulators of a state that landed in slot `k`, -/
theorem ld_ca (k : Fin 5) (s : Sm F) :
    shapeCast S8x64x128 (cM.view.readAt (Elt F) (Rect.unit (s := S5x8x66x128) ![k.val, 0, 0, 0] S1x8x64x128.size (inb_ca k)).toLoadRect (landed k (pack s)))
      shapeCasts_S1x8x64x128_S8x64x128 = s.a := by
  rw [← ld_a s]
  funext z
  refine (shapeCast_dropUnit_apply (n := 3) ![8, 64, 128] _ _ z).trans ?_
  refine landed_apply k (pack s) _ ((Rect.unit (s := S8x66x128) ![0, 0, 0] S8x64x128.size inb_S8x66x128_S8x64x128_0_0_0).emb z) ?_ ?_ ?_ ?_
  · show k.val + 1 * 0 = k.val; omega
  · rfl
  · rfl
  · rfl

/-- its maxima, -/
theorem ld_cm (k : Fin 5) (s : Sm F) :
    shapeCast S8x1x128 (cM.view.readAt (Elt F) (Rect.unit (s := S5x8x66x128) ![k.val, 0, 64, 0] S1x8x1x128.size (inb_cm k)).toLoadRect (landed k (pack s)))
      shapeCasts_S1x8x1x128_S8x1x128 = s.m := by
  rw [← ld_m s]
  funext z
  refine (shapeCast_dropUnit_apply (n := 3) ![8, 1, 128] _ _ z).trans ?_
  refine landed_apply k (pack s) _ ((Rect.unit (s := S8x66x128) ![0, 64, 0] S8x1x128.size inb_S8x66x128_S8x1x128_0_64_0).emb z) ?_ ?_ ?_ ?_
  · show k.val + 1 * 0 = k.val; omega
  · rfl
  · rfl
  · rfl

/-- and its sums. -/
theorem ld_cl (k : Fin 5) (s : Sm F) :
    shapeCast S8x1x128 (cM.view.readAt (Elt F) (Rect.unit (s := S5x8x66x128) ![k.val, 0, 65, 0] S1x8x1x128.size (inb_cl k)).toLoadRect (landed k (pack s)))
      shapeCasts_S1x8x1x128_S8x1x128 = s.l := by
  rw [← ld_l s]
  funext z
  refine (shapeCast_dropUnit_apply (n := 3) ![8, 1, 128] _ _ z).trans ?_
  refine landed_apply k (pack s) _ ((Rect.unit (s := S8x66x128) ![0, 65, 0] S8x1x128.size inb_S8x66x128_S8x1x128_0_65_0).emb z) ?_ ?_ ?_ ?_
  · show k.val + 1 * 0 = k.val; omega
  · rfl
  · rfl
  · rfl

/-! ### A merge's stores -/

/-- The three stores of a merge, newest first, from what the kernel loads. -/
def mpcs (a1 : Vec F S8x64x128 .f32) (m1 l1 : Vec F S8x1x128 .f32) (a2 : FVec F S8x64x128 .f32) (m2 l2 : FVec F S8x1x128 .f32) :
    List (View.Piece (Elt F) S8x66x128 .f32) :=
  [⟨Rect.unit (s := S8x66x128) ![0, 65, 0] S8x1x128.size inb_S8x66x128_S8x1x128_0_65_0,
     shapeCast S8x1x128 (addf (mulf l1 (exp (subf m1 (maximumf m1 m2)))) (mulf l2 (exp (subf m2 (maximumf m1 m2))))) shapeCasts_S8x1x128_S8x1x128⟩,
   ⟨Rect.unit (s := S8x66x128) ![0, 64, 0] S8x1x128.size inb_S8x66x128_S8x1x128_0_64_0, shapeCast S8x1x128 (maximumf m1 m2) shapeCasts_S8x1x128_S8x1x128⟩,
   ⟨Rect.unit (s := S8x66x128) ![0, 0, 0] S8x64x128.size inb_S8x66x128_S8x64x128_0_0_0,
     shapeCast S8x64x128 (addf (mulf a1 (broadcastTo S8x64x128 (exp (subf m1 (maximumf m1 m2))) broadcasts_S8x1x128_S8x64x128))
       (mulf a2 (broadcastTo S8x64x128 (exp (subf m2 (maximumf m1 m2))) broadcasts_S8x1x128_S8x64x128))) shapeCasts_S8x64x128_S8x64x128⟩]

/-- Stores of a state's three parts leave it packed. -/
theorem parts_writes (s : Sm F) (f : PBuf F) : pM.view.writes (Elt F) f
    [⟨Rect.unit (s := S8x66x128) ![0, 65, 0] S8x1x128.size inb_S8x66x128_S8x1x128_0_65_0, s.l⟩,
     ⟨Rect.unit (s := S8x66x128) ![0, 64, 0] S8x1x128.size inb_S8x66x128_S8x1x128_0_64_0, s.m⟩,
     ⟨Rect.unit (s := S8x66x128) ![0, 0, 0] S8x64x128.size inb_S8x66x128_S8x64x128_0_0_0, s.a⟩] = pack s := by
  refine writes_pack f _ _ (fun p hp => ?_) fun y => ?_
  · simp only [List.mem_cons, List.not_mem_nil, or_false] at hp
    rcases hp with rfl | rfl | rfl <;> intro z
    · exact (congrFun (ld_l s) z).symm
    · exact (congrFun (ld_m s) z).symm
    · exact (congrFun (ld_a s) z).symm
  · have h0 : (y 0).val < 8 := (y 0).isLt
    have h1 : (y 1).val < 66 := (y 1).isLt
    have h2 : (y 2).val < 128 := (y 2).isLt
    by_cases ha : (y 1).val < 64
    · refine ⟨_, List.mem_cons_of_mem _ (List.mem_cons_of_mem _ List.mem_cons_self), mem_unit _ _ inb_S8x66x128_S8x64x128_0_0_0 y fun a => ?_⟩
      match a with
      | ⟨0, _⟩ => show 0 ≤ (y 0).val ∧ (y 0).val < 0 + 8; omega
      | ⟨1, _⟩ => show 0 ≤ (y 1).val ∧ (y 1).val < 0 + 64; omega
      | ⟨2, _⟩ => show 0 ≤ (y 2).val ∧ (y 2).val < 0 + 128; omega
    by_cases hm : (y 1).val = 64
    · refine ⟨_, List.mem_cons_of_mem _ List.mem_cons_self, mem_unit _ _ inb_S8x66x128_S8x1x128_0_64_0 y fun a => ?_⟩
      match a with
      | ⟨0, _⟩ => show 0 ≤ (y 0).val ∧ (y 0).val < 0 + 8; omega
      | ⟨1, _⟩ => show 64 ≤ (y 1).val ∧ (y 1).val < 64 + 1; omega
      | ⟨2, _⟩ => show 0 ≤ (y 2).val ∧ (y 2).val < 0 + 128; omega
    · refine ⟨_, List.mem_cons_self, mem_unit _ _ inb_S8x66x128_S8x1x128_0_65_0 y fun a => ?_⟩
      match a with
      | ⟨0, _⟩ => show 0 ≤ (y 0).val ∧ (y 0).val < 0 + 8; omega
      | ⟨1, _⟩ => show 65 ≤ (y 1).val ∧ (y 1).val < 65 + 1; omega
      | ⟨2, _⟩ => show 0 ≤ (y 2).val ∧ (y 2).val < 0 + 128; omega

/-- The stores of round `k`'s merge, from what it loads of one's own state `s` and of the state `t` that landed. -/
def rpcs (k : Fin 5) (s t : Sm F) : List (View.Piece (Elt F) S8x66x128 .f32) :=
  mpcs (pM.view.readAt (Elt F) (Rect.unit (s := S8x66x128) ![0, 0, 0] S8x64x128.size inb_S8x66x128_S8x64x128_0_0_0).toLoadRect (pack s))
    (pM.view.readAt (Elt F) (Rect.unit (s := S8x66x128) ![0, 64, 0] S8x1x128.size inb_S8x66x128_S8x1x128_0_64_0).toLoadRect (pack s))
    (pM.view.readAt (Elt F) (Rect.unit (s := S8x66x128) ![0, 65, 0] S8x1x128.size inb_S8x66x128_S8x1x128_0_65_0).toLoadRect (pack s))
    (shapeCast S8x64x128 (cM.view.readAt (Elt F) (Rect.unit (s := S5x8x66x128) ![k.val, 0, 0, 0] S1x8x64x128.size (inb_ca k)).toLoadRect (landed k (pack t)))
      shapeCasts_S1x8x64x128_S8x64x128)
    (shapeCast S8x1x128 (cM.view.readAt (Elt F) (Rect.unit (s := S5x8x66x128) ![k.val, 0, 64, 0] S1x8x1x128.size (inb_cm k)).toLoadRect (landed k (pack t)))
      shapeCasts_S1x8x1x128_S8x1x128)
    (shapeCast S8x1x128 (cM.view.readAt (Elt F) (Rect.unit (s := S5x8x66x128) ![k.val, 0, 65, 0] S1x8x1x128.size (inb_cl k)).toLoadRect (landed k (pack t)))
      shapeCasts_S1x8x1x128_S8x1x128)

/-- They leave the merged state packed. -/
theorem mrg_writes (k : Fin 5) (s t : Sm F) (f : PBuf F) : pM.view.writes (Elt F) f (rpcs k s t) = pack (mrg s t) := by
  unfold rpcs
  rw [ld_a, ld_m, ld_l, ld_ca, ld_cm, ld_cl, mpcs, shapeCast_self, shapeCast_self, shapeCast_self]
  exact parts_writes (mrg s t) f

/-! ### The output's stores -/

/-- The two stores of the output, newest first. -/
def opcs (s : Sm F) (f4 : (cc0_stg4_0 : Ref sig .tc).ty.Contents (Elt F)) : List (View.Piece (Elt F) S2x128x512 .f32) :=
  [⟨Rect.unit (s := S2x128x512) ![1, 0, 0] S1x128x512.size inb_S2x128x512_S1x128x512_1_0_0, shapeCast S1x128x512 (proj s f4 1) shapeCasts_S128x512_S1x128x512⟩,
   ⟨Rect.unit (s := S2x128x512) ![0, 0, 0] S1x128x512.size inb_S2x128x512_S1x128x512_0_0_0, shapeCast S1x128x512 (proj s f4 0) shapeCasts_S128x512_S1x128x512⟩]

/-- The output at a place of batch element `b`. -/
theorem outV_at (s : Sm F) (f4 : (cc0_stg4_0 : Ref sig .tc).ty.Contents (Elt F)) (b : Fin 2) (y : S2x128x512.Idx) (p : Fin 128) (e : Fin 512)
    (h0 : (y 0).val = b.val) (h1 : (y 1).val = p.val) (h2 : (y 2).val = e.val) : outV s f4 y = proj s f4 b (ix2 p e) := by
  have e0 : (y 0 : Fin 2) = b := Fin.ext h0
  have e1 : (y 1 : Fin 128) = p := Fin.ext h1
  have e2 : (y 2 : Fin 512) = e := Fin.ext h2
  rw [← e0, ← e1, ← e2]
  rfl

/-- Stores that agree with an output and reach every place leave it, whatever lay there before. -/
theorem writes_out (f G : (cc0_stg5_0 : Ref sig .tc).ty.Contents (Elt F)) (L : List (View.Piece (Elt F) S2x128x512 .f32))
    (hL : ∀ p ∈ L, ∀ z : p.1.shape.Idx, p.2 z = G (p.1.emb z)) (hc : ∀ y : S2x128x512.Idx, ∃ p ∈ L, y ∈ p.1.set) :
    (Memref.whole cc0_stg5_0).view.writes (Elt F) f L = G :=
  funext fun y => (Memref.whole cc0_stg5_0).view.read_writes_apply_of_pieces (Val := Elt F) f G L hL y (hc y)

attribute [local irreducible] proj

/-- They leave the result, whatever the output buffer held before. -/
theorem out_writes (s : Sm F) (f4 : (cc0_stg4_0 : Ref sig .tc).ty.Contents (Elt F)) (f5 : (cc0_stg5_0 : Ref sig .tc).ty.Contents (Elt F)) :
    (Memref.whole cc0_stg5_0).view.writes (Elt F) f5 (opcs s f4) = outV s f4 := by
  refine writes_out f5 _ _ (fun p hp => ?_) fun y => ?_
  · simp only [opcs, List.mem_cons, List.not_mem_nil, or_false] at hp
    rcases hp with rfl | rfl <;> intro z
    · have h0 : (z 0).val < 1 := (z 0).isLt
      have e := outV_at s f4 1 ((Rect.unit (s := S2x128x512) ![1, 0, 0] S1x128x512.size inb_S2x128x512_S1x128x512_1_0_0).emb z) (z 1) (z 2)
        (show 1 + 1 * (z 0).val = 1 by omega) ((Nat.zero_add _).trans (Nat.one_mul _)) ((Nat.zero_add _).trans (Nat.one_mul _))
      refine Eq.trans ?_ e.symm
      refine (shapeCast_addUnit_apply (n := 2) ![128, 512] (proj s f4 1) shapeCasts_S128x512_S1x128x512 z).trans ?_
      exact congrArg (proj s f4 1) (eq_ix2 (n0 := 128) (n1 := 512) fun a => z a.succ)
    · have h0 : (z 0).val < 1 := (z 0).isLt
      have e := outV_at s f4 0 ((Rect.unit (s := S2x128x512) ![0, 0, 0] S1x128x512.size inb_S2x128x512_S1x128x512_0_0_0).emb z) (z 1) (z 2)
        (show 0 + 1 * (z 0).val = 0 by omega) ((Nat.zero_add _).trans (Nat.one_mul _)) ((Nat.zero_add _).trans (Nat.one_mul _))
      refine Eq.trans ?_ e.symm
      refine (shapeCast_addUnit_apply (n := 2) ![128, 512] (proj s f4 0) shapeCasts_S128x512_S1x128x512 z).trans ?_
      exact congrArg (proj s f4 0) (eq_ix2 (n0 := 128) (n1 := 512) fun a => z a.succ)
  · have h0 : (y 0).val < 2 := (y 0).isLt
    have h1 : (y 1).val < 128 := (y 1).isLt
    have h2 : (y 2).val < 512 := (y 2).isLt
    by_cases hb : (y 0).val = 1
    · refine ⟨_, List.mem_cons_self, mem_unit _ _ inb_S2x128x512_S1x128x512_1_0_0 y fun a => ?_⟩
      match a with
      | ⟨0, _⟩ => show 1 ≤ (y 0).val ∧ (y 0).val < 1 + 1; omega
      | ⟨1, _⟩ => show 0 ≤ (y 1).val ∧ (y 1).val < 0 + 128; omega
      | ⟨2, _⟩ => show 0 ≤ (y 2).val ∧ (y 2).val < 0 + 512; omega
    · refine ⟨_, List.mem_cons_of_mem _ List.mem_cons_self, mem_unit _ _ inb_S2x128x512_S1x128x512_0_0_0 y fun a => ?_⟩
      match a with
      | ⟨0, _⟩ => show 0 ≤ (y 0).val ∧ (y 0).val < 0 + 1; omega
      | ⟨1, _⟩ => show 0 ≤ (y 1).val ∧ (y 1).val < 0 + 128; omega
      | ⟨2, _⟩ => show 0 ≤ (y 2).val ∧ (y 2).val < 0 + 512; omega

end Cert.KernelIdealProof

end
-- ==== Proof.Cells.lean ====
/-
# The butterfly's cells at the launch

The twelve cells of every device, their duty tokens dealt to the devices that pay them, the credits dealt to the devices
that wait, and the landing buffer cut into its five slots.
-/
module

public import proofs.«01_k».proof.Proof.Steps
public import proofs.«01_k».proof.Proof.Contents
public import proofs.«01_k».proof.Proof.Gen.KernelIdeal.Launch
public import Idealize.ShloMosaic.Lib.Pipeline.Launch
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Fin 5 → Dev nD → PBuf F)

/-! ## The cells -/

/-- The eleven semaphores of the kernel's own: the closing barrier's, the sends', the receives'. -/
abbrev osem : Fin 11 → SemLoc sig :=
  ![.reg finS, .dma (sendS 0), .dma (sendS 1), .dma (sendS 2), .dma (sendS 3), .dma (sendS 4),
    .dma (recvS 0), .dma (recvS 1), .dma (recvS 2), .dma (recvS 3), .dma (recvS 4)]

set_option backward.proofsInPublic true in
/-- All twelve, in the order of a device's cells. -/
abbrev csem : Fin 12 → SemLoc sig :=
  ![.reg barS, .reg finS, .dma (sendS 0), .dma (sendS 1), .dma (sendS 2), .dma (sendS 3), .dma (sendS 4),
    .dma (recvS 0), .dma (recvS 1), .dma (recvS 2), .dma (recvS 3), .dma (recvS 4)]

/-- The cells of all devices. -/
abbrev kcell (cj : Dev nD × Fin 12) : GSem nD τ sig := ((cj.1 : Thread nD τ), csem cj.2)

theorem csem_send (k : Fin 5) : csem (iS k) = .dma (sendS k) := by revert k; decide
theorem csem_recv (k : Fin 5) : csem (iR k) = .dma (recvS k) := by revert k; decide
theorem csem_injective : Function.Injective csem := by decide

theorem kcell_send (c : Dev nD) (k : Fin 5) : kcell (c, iS k) = sendC k c := by unfold kcell; rw [csem_send]
theorem kcell_recv (c : Dev nD) (k : Fin 5) : kcell (c, iR k) = recvC k c := by unfold kcell; rw [csem_recv]

/-- The device of a cell. -/
theorem dev_inj {a b : Dev nD} {x y : SemLoc sig} (h : ((a : Thread nD τ), x) = ((b : Thread nD τ), y)) : a = b :=
  congrArg (fun g : GSem nD τ sig => g.1.1) h

theorem kcell_injective : Function.Injective kcell := by
  rintro ⟨c, j⟩ ⟨c', j'⟩ h
  have h1 : c = c' := dev_inj h
  have h2 : j = j' := csem_injective (congrArg Prod.snd h)
  rw [h1, h2]

/-- Every cell of the butterfly. -/
def allCells : Finset (GSem nD τ sig) := Finset.univ.map ⟨kcell, kcell_injective⟩

/-- A device's cells by their kind. -/
theorem bigSep_cells (Φ : Fin 12 → sProp 𝕄) :
    bigSep Finset.univ Φ ⊣⊢ iprop(Φ 0 ∗ Φ 1 ∗ (bigSep Finset.univ fun k : Fin 5 => Φ (iS k)) ∗ bigSep Finset.univ fun k : Fin 5 => Φ (iR k)) := by
  rw [bigSep_univ_eq_bigSepL [0, 1, 2, 3, 4, 5, 6, 7, 8, 9, 10, 11] (by decide) (by decide) Φ, bigSep_five, bigSep_five]
  constructor
  · show iprop(Φ 0 ∗ Φ 1 ∗ Φ 2 ∗ Φ 3 ∗ Φ 4 ∗ Φ 5 ∗ Φ 6 ∗ Φ 7 ∗ Φ 8 ∗ Φ 9 ∗ Φ 10 ∗ Φ 11) ⊢
      iprop(Φ 0 ∗ Φ 1 ∗ (Φ 2 ∗ Φ 3 ∗ Φ 4 ∗ Φ 5 ∗ Φ 6) ∗ (Φ 7 ∗ Φ 8 ∗ Φ 9 ∗ Φ 10 ∗ Φ 11))
    iintro ⟨H0, H1, H2, H3, H4, H5, H6, H7⟩
    isplitl [H0]; · iexact H0
    isplitl [H1]; · iexact H1
    isplitr [H7]
    · isplitl [H2]; · iexact H2
      isplitl [H3]; · iexact H3
      isplitl [H4]; · iexact H4
      isplitl [H5] <;> iassumption
    iexact H7
  · show iprop(Φ 0 ∗ Φ 1 ∗ (Φ 2 ∗ Φ 3 ∗ Φ 4 ∗ Φ 5 ∗ Φ 6) ∗ (Φ 7 ∗ Φ 8 ∗ Φ 9 ∗ Φ 10 ∗ Φ 11)) ⊢
      iprop(Φ 0 ∗ Φ 1 ∗ Φ 2 ∗ Φ 3 ∗ Φ 4 ∗ Φ 5 ∗ Φ 6 ∗ Φ 7 ∗ Φ 8 ∗ Φ 9 ∗ Φ 10 ∗ Φ 11)
    iintro ⟨H0, H1, ⟨H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The duty tokens -/

/-- A device's own cells' duty tokens: five on the barrier, five on the closing barrier, one on each send and receive. -/
abbrev tokOf (x : Dev nD × Fin 4 × Fin 5) : GSem nD τ sig × ℕ × Fin 5 := match x.2.1 with
  | 0 => (barC x.1, 0, x.2.2) | 1 => (finC x.1, 0, x.2.2) | 2 => (sendC x.2.2 x.1, 0, 0) | 3 => (recvC x.2.2 x.1, 0, 0)

theorem sendS_inj {k k' : Fin 5} (h : (.dma (sendS k) : SemLoc sig) = .dma (sendS k')) : k = k' := by revert k k'; decide
theorem recvS_inj {k k' : Fin 5} (h : (.dma (recvS k) : SemLoc sig) = .dma (recvS k')) : k = k' := by revert k k'; decide
theorem send_ne_recv (k k' : Fin 5) : (.dma (sendS k) : SemLoc sig) ≠ .dma (recvS k') := by revert k k'; decide

theorem tokOf_injective : Function.Injective tokOf := by
  rintro ⟨c, i, k⟩ ⟨c', i', k'⟩ h
  have h1 : c = c' := by
    have := congrArg (fun x : GSem nD τ sig × ℕ × Fin 5 => x.1.1.1) h
    fin_cases i <;> fin_cases i' <;> exact this
  subst h1
  have hs := congrArg (fun x : GSem nD τ sig × ℕ × Fin 5 => x.1.2) h
  have hd := congrArg (fun x : GSem nD τ sig × ℕ × Fin 5 => x.2.2) h
  fin_cases i <;> fin_cases i'
  · exact congrArg (fun k => (c, 0, k)) hd
  · exact absurd (show (.reg barS : SemLoc sig) = .reg finS from hs) (by decide)
  · exact absurd hs (fun e => by cases e)
  · exact absurd hs (fun e => by cases e)
  · exact absurd (show (.reg finS : SemLoc sig) = .reg barS from hs) (by decide)
  · exact congrArg (fun k => (c, 1, k)) hd
  · exact absurd hs (fun e => by cases e)
  · exact absurd hs (fun e => by cases e)
  · exact absurd hs (fun e => by cases e)
  · exact absurd hs (fun e => by cases e)
  · exact congrArg (fun k => (c, 2, k)) (sendS_inj hs)
  · exact absurd hs (send_ne_recv k k')
  · exact absurd hs (fun e => by cases e)
  · exact absurd hs (fun e => by cases e)
  · exact absurd hs.symm (send_ne_recv k' k)
  · exact congrArg (fun k => (c, 3, k)) (recvS_inj hs)

/-- Every duty token of the butterfly. -/
def allToks : Finset (GSem nD τ sig × ℕ × Fin 5) := Finset.univ.map ⟨tokOf, tokOf_injective⟩

/-- The pipeline's launch element beside the butterfly's. -/
def u₀ : UU := (initOf (Pipeline.cells cfgs cellOf_inj) (Pipeline.launchToks cfgs cellOf_inj), initOf allCells allToks)

/-- The tokens of device `c`'s own cells, -/
def toks (c : Dev nD) : sProp 𝕄 :=
  iprop((bigSep Finset.univ fun k : Fin 5 => dutyTok ER (barC c) 0 k) ∗ (bigSep Finset.univ fun k : Fin 5 => dutyTok ER (finC c) 0 k)
    ∗ (bigSep Finset.univ fun k : Fin 5 => dutyTok ER (sendC k c) 0 0) ∗ bigSep Finset.univ fun k : Fin 5 => dutyTok ER (recvC k c) 0 0)
/-- and those of the duties it pays. -/
def payToks (c : Dev nD) : sProp 𝕄 :=
  iprop((bigSep Finset.univ fun k : Fin 5 => dutyTok ER (barC (pt k c)) 0 k) ∗ (bigSep Finset.univ fun k : Fin 5 => dutyTok ER (finC (pt k c)) 0 k)
    ∗ (bigSep Finset.univ fun k : Fin 5 => dutyTok ER (sendC k c) 0 0) ∗ bigSep Finset.univ fun k : Fin 5 => dutyTok ER (recvC k (pt k c)) 0 0)

omit [FloatOps F] in
/-- A round-indexed family over all devices, each round's dealt to its partners. -/
theorem deal (Φ : Fin 5 → Dev nD → sProp 𝕄) :
    (bigSep Finset.univ fun c : Dev nD => bigSep Finset.univ fun k : Fin 5 => Φ k c)
      = bigSep Finset.univ fun c : Dev nD => bigSep Finset.univ fun k : Fin 5 => Φ k (pt k c) := by
  have h5 (Ψ : Fin 5 → Dev nD → sProp 𝕄) : (bigSep Finset.univ fun c : Dev nD => bigSep Finset.univ fun k : Fin 5 => Ψ k c)
      = iprop((bigSep Finset.univ (Ψ 0)) ∗ (bigSep Finset.univ (Ψ 1)) ∗ (bigSep Finset.univ (Ψ 2)) ∗ (bigSep Finset.univ (Ψ 3)) ∗ (bigSep Finset.univ (Ψ 4))) := by
    simp only [bigSep_five, bigSep_sep']
  rw [h5, h5 fun k c => Φ k (pt k c), bigSep_univ_equiv (swp 0) (Φ 0), bigSep_univ_equiv (swp 1) (Φ 1), bigSep_univ_equiv (swp 2) (Φ 2),
    bigSep_univ_equiv (swp 3) (Φ 3), bigSep_univ_equiv (swp 4) (Φ 4)]
  rfl

omit [FloatOps F] in
/-- The tokens dealt to the devices that pay with them. -/
theorem toks_dealt : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    deal (fun k c => (dutyTok ER (barC c) 0 k : sProp 𝕄)), deal (fun k c => (dutyTok ER (finC c) 0 k : sProp 𝕄)),
    deal (fun k c => (dutyTok ER (recvC k c) 0 0 : sProp 𝕄))]

/-- What the launch element deals device `c`. -/
def G (c : Dev nD) : sProp 𝕄 :=
  iprop((bigSep Finset.univ fun j : Fin 12 => roundState ER (rd P) (kcell (c, j)) 0)
    ∗ (bigSep Finset.univ fun j : Fin 12 => iprop(atPos ER (kcell (c, j)) 0 ∅ 0 ∗ reached ER (kcell (c, j)) 0)) ∗ toks c)

/-- The launch element pays for that. -/
theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun j : Fin 12 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod]
    unfold toks
    rw [bigSep_univ_eq_bigSepL [0, 1, 2, 3] (by decide) (by decide)]; rfl
  iintro HX
  imod (Rounds.fund ER (rd P) allCells allToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores at zero are eleven cells at zero. -/
theorem ownSems0_eq (c : Dev nD) : (Pipeline.ownSems0 (Ix := Unit) (Name := ℕ) (U := UU) (Lvl := ℕ) (Val := Elt F) (τ := τ) osem c : sProp 𝕄)
    = iprop(semVal (finC c) 0 ∗ semVal (sendC 0 c) 0 ∗ semVal (sendC 1 c) 0 ∗ semVal (sendC 2 c) 0 ∗ semVal (sendC 3 c) 0 ∗ semVal (sendC 4 c) 0
      ∗ semVal (recvC 0 c) 0 ∗ semVal (recvC 1 c) 0 ∗ semVal (recvC 2 c) 0 ∗ semVal (recvC 3 c) 0 ∗ semVal (recvC 4 c) 0) := by
  rw [Pipeline.ownSems0_eq_of_list c osem [0, 1, 2, 3, 4, 5, 6, 7, 8, 9, 10] (by decide) (by decide)]; rfl
omit [FloatOps F] in
/-- The launch's one other semaphore is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- Together they are the twelve cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 12 => semVal (kcell (c, j)) 0 : sProp 𝕄) := by
  rw [ownSems0_eq, unscopedSems0_eq, bigSep_univ_eq_bigSepL [0, 1, 2, 3, 4, 5, 6, 7, 8, 9, 10, 11] (by decide) (by decide)]
  show iprop((semVal (finC c) 0 ∗ semVal (sendC 0 c) 0 ∗ semVal (sendC 1 c) 0 ∗ semVal (sendC 2 c) 0 ∗ semVal (sendC 3 c) 0 ∗ semVal (sendC 4 c) 0
      ∗ semVal (recvC 0 c) 0 ∗ semVal (recvC 1 c) 0 ∗ semVal (recvC 2 c) 0 ∗ semVal (recvC 3 c) 0 ∗ semVal (recvC 4 c) 0) ∗ semVal (barC c) 0)
    ⊢ iprop(semVal (barC c) 0 ∗ semVal (finC c) 0 ∗ semVal (sendC 0 c) 0 ∗ semVal (sendC 1 c) 0 ∗ semVal (sendC 2 c) 0 ∗ semVal (sendC 3 c) 0
      ∗ semVal (sendC 4 c) 0 ∗ semVal (recvC 0 c) 0 ∗ semVal (recvC 1 c) 0 ∗ semVal (recvC 2 c) 0 ∗ semVal (recvC 3 c) 0 ∗ semVal (recvC 4 c) 0)
  iintro ⟨HS, HB⟩
  isplitl [HB]; · iexact HB
  iexact HS

/-- The invariants of a device's cells, allocated. -/
theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun j => iprop(∃ κ : ℕ, cellInv ER (rd P) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 12 => semVal (kcell (c, j)) 0) ∗ bigSep Finset.univ fun j : Fin 12 => roundState ER (rd P) (kcell (c, j)) 0)
      ⊢ (|={Set.univ}=> bigSep Finset.univ fun j => iprop(∃ κ : ℕ, cellInv ER (rd P) κ (kcell (c, j))) : sProp 𝕄) from by
        rw [← bigSep_sep']
        exact (bigSep_mono fun j _ => (Rounds.body_intro ER (rd P) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that every cell has reached its round. -/
def records (K : Dev nD × Fin 12 → ℕ) : sProp 𝕄 :=
  iprop((bigSep Finset.univ fun cj : Dev nD × Fin 12 => cellInv ER (rd P) (K cj) (kcell cj))
    ∗ bigSep Finset.univ fun cj : Dev nD × Fin 12 => reached ER (kcell cj) 0)

instance records_persistent (K : Dev nD × Fin 12 → ℕ) : BI.Persistent (records P K) := by unfold records; infer_instance

variable (K : Dev nD × Fin 12 → ℕ)

/-- The record of one cell. -/
theorem rec_at (cj : Dev nD × Fin 12) (g : GSem nD τ sig) (hg : kcell cj = g) :
    records P K ⊢ iprop(cellInv ER (rd P) (K cj) g ∗ reached ER g 0) := by
  subst hg
  unfold records
  iintro ⟨#HI, #HR⟩
  isplitr
  · iapply (show (bigSep Finset.univ fun cj : Dev nD × Fin 12 => (cellInv ER (rd P) (K cj) (kcell cj) : sProp 𝕄)) ⊢ cellInv ER (rd P) (K cj) (kcell cj)
      from bigSep_elim (Finset.mem_univ cj)); iexact HI
  · iapply (show (bigSep Finset.univ fun cj : Dev nD × Fin 12 => (reached ER (kcell cj) 0 : sProp 𝕄)) ⊢ reached ER (kcell cj) 0
      from bigSep_elim (Finset.mem_univ cj)); iexact HR

/-- What stays with device `c`: its positions, and the tokens of the duties it pays. -/
def linear (c : Dev nD) : sProp 𝕄 := iprop((bigSep Finset.univ fun j : Fin 12 => atPos ER (kcell (c, j)) 0 ∅ 0) ∗ payToks c)

/-- What device `c` runs the butterfly with, but for the credits. -/
def ghost (c : Dev nD) : sProp 𝕄 :=
  iprop((bigSep Finset.univ fun k : Fin 5 => gBar P K k c) ∗ (bigSep Finset.univ fun k : Fin 5 => gCopy P K k c)
    ∗ (bigSep Finset.univ fun k : Fin 5 => gSend P K k c)
    ∗ (bigSep Finset.univ fun k : Fin 5 => iprop(cellInv ER (rd P) (K (c, iR k)) (recvC k c) ∗ atPos ER (recvC k c) 0 ∅ 0))
    ∗ (bigSep Finset.univ fun k : Fin 5 => gFin P K k c)
    ∗ iprop(cellInv ER (rd P) (K (c, 0)) (barC c) ∗ atPos ER (barC c) 0 ∅ 0)
    ∗ iprop(cellInv ER (rd P) (K (c, 1)) (finC c) ∗ atPos ER (finC c) 0 ∅ 0))

/-- A persistent fact goes to every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The device's bundles from the records and what stays with it. -/
theorem ghost_intro (c : Dev nD) : iprop(records P K ∗ linear c) ⊢ iprop(∃ K, ghost P K c) := by
  unfold linear payToks
  iintro ⟨#HR, Hat, HtB, HtF, HtS, HtV⟩
  ihave Hat := (bigSep_cells (F := F) fun j => atPos ER (kcell (c, j)) 0 ∅ 0).1 $$ Hat
  icases Hat with ⟨HaB, HaF, HaS, HaV⟩
  iexists K
  unfold ghost
  isplitl [HtB]
  · iapply (bigSep_with (R := records P K) (Φ := fun k : Fin 5 => dutyTok ER (barC (pt k c)) 0 k) fun k _ => by
      unfold gBar
      iintro ⟨#HR, Ht⟩
      ihave Hr := (rec_at P K (pt k c, 0) (barC (pt k c)) rfl) $$ HR
      icases Hr with ⟨HI, Hr⟩
      isplitl [HI]; · iexact HI
      isplitl [Hr] <;> iassumption)
    isplitr; · iexact HR
    iexact HtB
  isplitl [HtS HtV]
  · iapply (bigSep_with (R := records P K) (Φ := fun k : Fin 5 => iprop(dutyTok ER (sendC k c) 0 0 ∗ dutyTok ER (recvC k (pt k c)) 0 0)) fun k _ => by
      unfold gCopy
      iintro ⟨#HR, Ht, Ht'⟩
      ihave Hr := (rec_at P K (c, iS k) (sendC k c) (kcell_send c k)) $$ HR
      icases Hr with ⟨HI, Hr⟩
      ihave Hr' := (rec_at P K (pt k c, iR k) (recvC k (pt k c)) (kcell_recv _ k)) $$ HR
      icases Hr' with ⟨HI', Hr'⟩
      isplitl [HI]; · iexact HI
      isplitl [HI']; · iexact HI'
      isplitl [Hr]; · iexact Hr
      isplitl [Hr']; · iexact Hr'
      isplitl [Ht] <;> iassumption)
    isplitr; · iexact HR
    rw [bigSep_sep']
    isplitl [HtS] <;> iassumption
  isplitl [HaS]
  · iapply (bigSep_with (R := records P K) (Φ := fun k : Fin 5 => atPos ER (kcell (c, iS k)) 0 ∅ 0) fun k _ => by
      unfold gSend; rw [kcell_send]
      iintro ⟨#HR, Ha⟩
      ihave Hr := (rec_at P K (c, iS k) (sendC k c) (kcell_send c k)) $$ HR
      icases Hr with ⟨HI, Hr⟩
      isplitl [HI] <;> iassumption)
    isplitr; · iexact HR
    iexact HaS
  isplitl [HaV]
  · iapply (bigSep_with (R := records P K) (Φ := fun k : Fin 5 => atPos ER (kcell (c, iR k)) 0 ∅ 0) fun k _ => by
      rw [kcell_recv]
      iintro ⟨#HR, Ha⟩
      ihave Hr := (rec_at P K (c, iR k) (recvC k c) (kcell_recv c k)) $$ HR
      icases Hr with ⟨HI, Hr⟩
      isplitl [HI] <;> iassumption)
    isplitr; · iexact HR
    iexact HaV
  isplitl [HtF]
  · iapply (bigSep_with (R := records P K) (Φ := fun k : Fin 5 => dutyTok ER (finC (pt k c)) 0 k) fun k _ => by
      unfold gFin
      iintro ⟨#HR, Ht⟩
      ihave Hr := (rec_at P K (pt k c, 1) (finC (pt k c)) rfl) $$ HR
      icases Hr with ⟨HI, Hr⟩
      isplitl [HI]; · iexact HI
      isplitl [Hr] <;> iassumption)
    isplitr; · iexact HR
    iexact HtF
  isplitl [HaB]
  · ihave Hr := (rec_at P K (c, 0) (barC c) rfl) $$ HR
    icases Hr with ⟨HI, Hr⟩
    isplitl [HI]; · iexact HI
    iexact HaB
  · ihave Hr := (rec_at P K (c, 1) (finC c) rfl) $$ HR
    icases Hr with ⟨HI, Hr⟩
    isplitl [HI]; · iexact HI
    iexact HaF

/-- All devices' allocations regrouped: the records shared, the tokens dealt. -/
theorem regroup :
    (bigSep Finset.univ fun c : Dev nD => iprop((bigSep Finset.univ fun j => iprop(∃ κ : ℕ, cellInv ER (rd P) κ (kcell (c, j))))
          ∗ (bigSep Finset.univ fun j => iprop(atPos ER (kcell (c, j)) 0 ∅ 0 ∗ reached ER (kcell (c, j)) 0)) ∗ toks c) : sProp 𝕄)
      ⊢ bigSep Finset.univ fun c => iprop(∃ K, ghost P K c) := by
  rw [bigSep_sep', bigSep_sep', ← bigSep_univ_prod (fun cj : Dev nD × Fin 12 => iprop(∃ κ : ℕ, cellInv ER (rd P) κ (kcell cj))),
    bigSep_congr (s := Finset.univ) (fun (c : Dev nD) _ => bigSep_sep' Finset.univ (fun j : Fin 12 => (atPos ER (kcell (c, j)) 0 ∅ 0 : sProp 𝕄)) (fun j => reached ER (kcell (c, j)) 0)),
    bigSep_sep', ← bigSep_univ_prod (fun cj : Dev nD × Fin 12 => (reached ER (kcell cj) 0 : sProp 𝕄)), toks_dealt]
  iintro ⟨HI, ⟨Hat, #HR⟩, Htok⟩
  ihave HK := (BI.bigSep_exists_pi Finset.univ (fun (cj : Dev nD × Fin 12) (κ : ℕ) => (cellInv ER (rd P) κ (kcell cj) : sProp 𝕄))) $$ HI
  icases HK with ⟨%K, #HI⟩
  iapply (bigSep_with (R := records P K) (Φ := linear) fun c _ => ghost_intro P K c)
  isplitr
  · unfold records; isplitl; · iexact HI
    iexact HR
  · unfold linear
    rw [bigSep_sep']
    isplitl [Hat]; · iexact Hat
    iexact Htok

/-- The launch's global step. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ fun c => iprop(∃ K, ghost P K c) :=
  ((bigSep_mono fun c _ => core_alloc P c).trans (bigSep_fupd _ _)).trans (BI.fupd_mono (regroup P))

/-! ## The credits -/

/-- What a device owes at the launch, by kind. -/
theorem owe_eq (d : Dev nD) : owe d 15 = (∑ k : Fin 5, tallyAt (finC (pt k d)) () 1) + (∑ k : Fin 5, tallyAt (recvC k (pt k d)) () N)
    + ∑ k : Fin 5, tallyAt (barC (pt k d)) () 1 := by
  funext g
  refine Finsupp.ext fun u => ?_
  simp only [owe, due, Fin.sum_univ_five]
  simp [Pi.add_apply, Finsupp.add_apply]
  omega

theorem fin_ne_bar (c d : Dev nD) : finC c ≠ barC d := fun h => absurd (show (.reg finS : SemLoc sig) = .reg barS from congrArg Prod.snd h) (by decide)
theorem recv_ne_bar (k : Fin 5) (c d : Dev nD) : recvC k c ≠ barC d := fun h => by cases congrArg Prod.snd h
theorem recv_ne_fin (k : Fin 5) (c d : Dev nD) : recvC k c ≠ finC d := fun h => by cases congrArg Prod.snd h

/-- Device `d` owes device `c`'s barrier a unit for every round it is the partner in; -/
theorem owed_bar (d c : Dev nD) : owe d 15 (barC c) () = ∑ k : Fin 5, if d = pt k c then 1 else 0 := by
  rw [owe_eq]
  simp only [Pi.add_apply, Finset.sum_apply, Finsupp.add_apply, Finsupp.finset_sum_apply, tallyAt_apply, and_true]
  rw [Finset.sum_eq_zero fun k _ => if_neg fun h => fin_ne_bar _ _ h.symm, Finset.sum_eq_zero fun k _ => if_neg fun h => recv_ne_bar _ _ _ h.symm,
    Nat.zero_add, Nat.zero_add]
  exact Finset.sum_congr rfl fun k _ => if_congr ⟨fun h => (eq_pt_iff k c d).mp (dev_inj h), fun h => by rw [h, pt_pt]⟩ rfl rfl

/-- the closing barrier the same; -/
theorem owed_fin (d c : Dev nD) : owe d 15 (finC c) () = ∑ k : Fin 5, if d = pt k c then 1 else 0 := by
  rw [owe_eq]
  simp only [Pi.add_apply, Finset.sum_apply, Finsupp.add_apply, Finsupp.finset_sum_apply, tallyAt_apply, and_true]
  rw [Finset.sum_eq_zero (f := fun k : Fin 5 => if finC c = recvC k (pt k d) then N else 0) fun k _ => if_neg fun h => recv_ne_fin _ _ _ h.symm,
    Finset.sum_eq_zero (f := fun k : Fin 5 => if finC c = barC (pt k d) then 1 else 0) fun k _ => if_neg fun h => fin_ne_bar _ _ h,
    Nat.add_zero, Nat.add_zero]
  exact Finset.sum_congr rfl fun k _ => if_congr ⟨fun h => (eq_pt_iff k c d).mp (dev_inj h), fun h => by rw [h, pt_pt]⟩ rfl rfl

/-- and round `k`'s receive one copy if it is the partner in that round. -/
theorem owed_recv (k : Fin 5) (d c : Dev nD) : owe d 15 (recvC k c) () = if d = pt k c then N else 0 := by
  rw [owe_eq]
  simp only [Pi.add_apply, Finset.sum_apply, Finsupp.add_apply, Finsupp.finset_sum_apply, tallyAt_apply, and_true]
  rw [Finset.sum_eq_zero (f := fun k' : Fin 5 => if recvC k c = finC (pt k' d) then 1 else 0) fun k' _ => if_neg fun h => recv_ne_fin _ _ _ h,
    Finset.sum_eq_zero (f := fun k' : Fin 5 => if recvC k c = barC (pt k' d) then 1 else 0) fun k' _ => if_neg fun h => recv_ne_bar _ _ _ h,
    Nat.add_zero, Nat.zero_add,
    Finset.sum_eq_single k (fun k' _ hk => if_neg fun h => hk (recvS_inj (congrArg Prod.snd h)).symm) (fun h => absurd (Finset.mem_univ k) h)]
  exact if_congr ⟨fun h => (eq_pt_iff k c d).mp (dev_inj h), fun h => by rw [h, pt_pt]⟩ rfl rfl

/-- Every device is the partner of one device in every round. -/
theorem sum_partners (c : Dev nD) : (∑ d : Dev nD, ∑ k : Fin 5, if d = pt k c then 1 else 0) = 5 := by
  rw [Finset.sum_comm, Finset.sum_congr rfl fun k _ => Finset.sum_ite_eq' Finset.univ (pt k c) fun _ => 1]
  simp

/-- The launch's credit at a device's barrier, -/
theorem launch_bar (c : Dev nD) :
    tallyOn (barC c) (launchCredit (Pipeline.owing fun d => owe d 15) 0 (barC c)) = (tallyAt (barC c) () 5 : CellTallies nD τ sig Unit) := by
  unfold tallyAt; refine congrArg _ (Finsupp.ext fun u => ?_); cases u
  rw [Pipeline.launchCredit_owing, Finsupp.single_eq_same, Finset.sum_congr rfl fun d _ => owed_bar d c, sum_partners]
/-- at its closing barrier, -/
theorem launch_fin (c : Dev nD) :
    tallyOn (finC c) (launchCredit (Pipeline.owing fun d => owe d 15) 0 (finC c)) = (tallyAt (finC c) () 5 : CellTallies nD τ sig Unit) := by
  unfold tallyAt; refine congrArg _ (Finsupp.ext fun u => ?_); cases u
  rw [Pipeline.launchCredit_owing, Finsupp.single_eq_same, Finset.sum_congr rfl fun d _ => owed_fin d c, sum_partners]
/-- at its receives. -/
theorem launch_recv (k : Fin 5) (c : Dev nD) :
    tallyOn (recvC k c) (launchCredit (Pipeline.owing fun d => owe d 15) 0 (recvC k c)) = (tallyAt (recvC k c) () N : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (pt k c) fun _ => N, if_pos (Finset.mem_univ _)]

/-- The credits a device waits with. -/
def crs (c : Dev nD) : sProp 𝕄 :=
  iprop(cred (tallyAt (barC c) () 5) ∗ cred (tallyAt (finC c) () 5) ∗ bigSep Finset.univ fun k : Fin 5 => cred (tallyAt (recvC k c) () N))

/-- The launch deals them. -/
theorem creds (c : Dev nD) : (Pipeline.launchCred (fun d => owe d 15) c : sProp 𝕄) ⊢ crs c := by
  unfold Pipeline.launchCred crs
  refine BIBase.Entails.trans (bigSep_subset (Finset.subset_univ (Finset.univ.map ⟨csem, csem_injective⟩))) ?_
  rw [bigSep_map]
  refine BIBase.Entails.trans (bigSep_cells _).1 ?_
  iintro ⟨HB, HF, -, HR⟩
  isplitl [HB]; · rw [← launch_bar]; iexact HB
  isplitl [HF]; · rw [← launch_fin]; iexact HF
  have e : (bigSep Finset.univ fun k : Fin 5 => (cred (tallyOn ((c : Thread nD τ), csem (iR k)) (launchCredit (Pipeline.owing fun d => owe d 15) 0 ((c : Thread nD τ), csem (iR k)))) : sProp 𝕄))
      = bigSep Finset.univ fun k : Fin 5 => cred (tallyAt (recvC k c) () N) :=
    bigSep_congr fun k _ => by rw [csem_recv, launch_recv]
  rw [← e]
  iexact HR

/-! ## The landing buffer -/

/-- Where slot `k` lies. -/
theorem mem_slot (k : Fin 5) (y : S5x8x66x128.Idx) : y ∈ (slotM k).view.set ↔ (y 0).val = k.val := by
  constructor
  · intro h
    obtain ⟨z, -, e⟩ := Finset.mem_map.mp h
    let y' : S5x8x66x128.Idx := ix4 (n0 := 5) (n1 := 8) (n2 := 66) (n3 := 128) k (z 0) (z 1) (z 2)
    have e' := slot_emb k z y' rfl rfl rfl rfl
    rw [← e, e']; rfl
  · intro h
    let z : S8x66x128.Idx := ix3 (n0 := 8) (n1 := 66) (n2 := 128) (y 1) (y 2) (y 3)
    exact Finset.mem_map.mpr ⟨z, Finset.mem_univ _, slot_emb k z y h rfl rfl rfl⟩

/-- The places of slot `k`. -/
abbrev slotSet (k : Fin 5) : Finset S5x8x66x128.Idx := (slotM k).view.set

/-- No two slots meet, -/
theorem slots_disjoint (k k' : Fin 5) (h : k ≠ k') : Disjoint (slotSet k) (slotSet k') :=
  Finset.disjoint_left.mpr fun y hy hy' => h (Fin.ext (((mem_slot k y).mp hy).symm.trans ((mem_slot k' y).mp hy')))

/-- and they fill the buffer. -/
theorem slots_fill : (Finset.univ : Finset (Fin 5)).biUnion (fun k => slotSet k) = Finset.univ :=
  Finset.eq_univ_iff_forall.mpr fun y => Finset.mem_biUnion.mpr ⟨y 0, Finset.mem_univ _, (mem_slot (y 0) y).mpr rfl⟩

/-- The landing buffer is its five slots. -/
theorem split_slots (c : Dev nD) (f : CBuf F) :
    (((c : Thread nD τ).loc cc0_scratch1) ↦{fullShare} f : sProp 𝕄) ⊢ bigSep Finset.univ fun k : Fin 5 => iprop(∃ f, slotPts k c f) := by
  have e := pointsTo_biUnion (ℓ := (c : Thread nD τ).loc cc0_scratch1) (q := fullShare) (f := f) (Val := Elt F) (Ix := Unit) (Name := ℕ) (U := UU) (Lvl := ℕ)
    (Finset.univ : Finset (Fin 5)) (fun k => slotSet k) (fun k _ k' _ h => slots_disjoint k k' h)
  rw [slots_fill] at e
  refine BIBase.Entails.trans (Entails.of_eq e) (bigSep_mono fun k _ => ?_)
  show ((slotM k).view.loc (c : Thread nD τ) ↦[(slotM k).view.set]{fullShare} f : sProp 𝕄) ⊢ iprop(∃ f, slotPts k c f)
  unfold slotPts
  iintro H
  iexists f
  iexact H

/-- The five slots are the landing buffer. -/
theorem join_slots (c : Dev nD) (fs : Fin 5 → CBuf F) :
    (bigSep Finset.univ fun k : Fin 5 => slotPts k c (fs k)) ⊢ (iprop(∃ f, ((c : Thread nD τ).loc cc0_scratch1) ↦{fullShare} f) : sProp 𝕄) := by
  have e := pointsTo_biUnion_join (ℓ := (c : Thread nD τ).loc cc0_scratch1) (q := fullShare) (Val := Elt F) (Ix := Unit) (Name := ℕ) (U := UU) (Lvl := ℕ)
    (Finset.univ : Finset (Fin 5)) (fun k => slotSet k) fs (fs 0) (fun k _ k' _ h => slots_disjoint k k' h)
  rw [slots_fill] at e
  refine BIBase.Entails.trans e ?_
  iintro ⟨%g, -, H⟩
  iexists g
  iexact H

end Cert.KernelIdealProof

end
-- ==== Proof.Body.lean ====
/-
# The kernel's body on one device

The body started with a device's tokens, its five landing slots, its staged inputs and its send buffer ends with the
output buffer holding the projection of the merged state, everything handed back and nothing owed. Local stretches are
run by the executor; the remote operations are taken by the rules of `Steps`.
-/
module

public import proofs.«01_k».proof.Proof.Steps
public import proofs.«01_k».proof.Proof.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (X : Dev nD → Inp F) (K : Dev nD × Fin 12 → ℕ)

/-- The send buffer as the executor holds it, at contents known to be `g`, is the schedule's payload; -/
theorem to_pPts (c : Dev nD) (f g : PBuf F) (h : f = g) :
    ((Memref.whole cc0_scratch0).view.loc (c : Thread nD τ) ↦{fullShare} f : sProp 𝕄) ⊢ pPts c g := by
  subst h; unfold pPts; rw [View.set_whole]

/-- and back. -/
theorem of_pPts (c : Dev nD) (f : PBuf F) :
    (pPts c f : sProp 𝕄) ⊢ (Memref.whole cc0_scratch0).view.loc (c : Thread nD τ) ↦{fullShare} f := by
  unfold pPts; rw [View.set_whole]

/-- The send buffer at contents known to be `g`. -/
theorem hp_eq (c : Dev nD) (f g : PBuf F) (h : f = g) : ((Memref.whole cc0_scratch0).view.loc (c : Thread nD τ) ↦{fullShare} f : sProp 𝕄)
    ⊢ (Memref.whole cc0_scratch0).view.loc (c : Thread nD τ) ↦{fullShare} g := by
  subst h; exact Entails.refl _

/-- The output buffer at contents known to be `g`. -/
theorem h5_eq (c : Dev nD) (f g : (cc0_stg5_0 : Ref sig .tc).ty.Contents (Elt F)) (h : f = g) :
    ((Memref.whole cc0_stg5_0).view.loc (c : Thread nD τ) ↦{fullShare} f : sProp 𝕄)
    ⊢ (Memref.whole cc0_stg5_0).view.loc (c : Thread nD τ) ↦{fullShare} g := by
  subst h; exact Entails.refl _

/-- One pair's accumulator, loaded over a merge's stores, -/
theorem cov_rowA (k : Fin 5) (s t : Sm F) (b : Fin 2) (h : Fin 4) :
    pM.view.readCov (rpcs k s t) (Rect.unit (s := S8x66x128) ![4 * b.val + h.val, 0, 0] S1x64x128.size (inb_pa b h)).toLoadRect = rowA (mrg s t) b h :=
  (congrArg (pM.view.readAt (Elt F) (Rect.unit (s := S8x66x128) ![4 * b.val + h.val, 0, 0] S1x64x128.size (inb_pa b h)).toLoadRect)
    (mrg_writes k s t _)).trans (ld_rowA _ b h)

/-- and its sums. -/
theorem cov_rowL (k : Fin 5) (s t : Sm F) (b : Fin 2) (h : Fin 4) :
    pM.view.readCov (rpcs k s t) (Rect.unit (s := S8x66x128) ![4 * b.val + h.val, 65, 0] S1x1x128.size (inb_pl b h)).toLoadRect = rowL (mrg s t) b h :=
  (congrArg (pM.view.readAt (Elt F) (Rect.unit (s := S8x66x128) ![4 * b.val + h.val, 65, 0] S1x1x128.size (inb_pl b h)).toLoadRect)
    (mrg_writes k s t _)).trans (ld_rowL _ b h)

/-- The projection of loaded rows. -/
def projG (a : Fin 2 → Fin 4 → Vec F S1x64x128 .f32) (l : Fin 2 → Fin 4 → Vec F S1x1x128 .f32) (f : (cc0_stg4_0 : Ref sig .tc).ty.Contents (Elt F)) (b : Fin 2) :
    FVec F S128x512 .f32 :=
  addf (addf (addf (hd (a b 0) (l b 0) (woB f 0)) (hd (a b 1) (l b 1) (woB f 1))) (hd (a b 2) (l b 2) (woB f 2))) (hd (a b 3) (l b 3) (woB f 3))

/-- The output's stores as the kernel makes them, its rows loaded over the last merge's stores, leave the result. -/
theorem out_writes' (s t : Sm F) (f4 : (cc0_stg4_0 : Ref sig .tc).ty.Contents (Elt F)) (f5 : (cc0_stg5_0 : Ref sig .tc).ty.Contents (Elt F))
    (a : Fin 2 → Fin 4 → Vec F S1x64x128 .f32) (l : Fin 2 → Fin 4 → Vec F S1x1x128 .f32)
    (ha : a = fun b h => pM.view.readCov (rpcs 4 s t) (Rect.unit (s := S8x66x128) ![4 * b.val + h.val, 0, 0] S1x64x128.size (inb_pa b h)).toLoadRect)
    (hl : l = fun b h => pM.view.readCov (rpcs 4 s t) (Rect.unit (s := S8x66x128) ![4 * b.val + h.val, 65, 0] S1x1x128.size (inb_pl b h)).toLoadRect) :
    (Memref.whole cc0_stg5_0).view.writes (Elt F) f5
      [⟨Rect.unit (s := S2x128x512) ![1, 0, 0] S1x128x512.size inb_S2x128x512_S1x128x512_1_0_0, shapeCast S1x128x512 (projG a l f4 1) shapeCasts_S128x512_S1x128x512⟩,
       ⟨Rect.unit (s := S2x128x512) ![0, 0, 0] S1x128x512.size inb_S2x128x512_S1x128x512_0_0_0, shapeCast S1x128x512 (projG a l f4 0) shapeCasts_S128x512_S1x128x512⟩]
      = outV (mrg s t) f4 := by
  have ea : a = rowA (mrg s t) := ha.trans (funext fun b => funext fun h => cov_rowA 4 s t b h)
  have el : l = rowL (mrg s t) := hl.trans (funext fun b => funext fun h => cov_rowL 4 s t b h)
  subst ea; subst el
  exact out_writes (mrg s t) f4 f5

set_option maxHeartbeats 8000000 in
/-- The body's run: from the tokens, the slots, the staged inputs and the send buffer to the output, with every buffer and every
    semaphore handed back and nothing owed. -/
theorem sound_body (c : Dev nD) (Kt : PUnit → sProp 𝕄) (f5 : (cc0_stg5_0 : Ref sig .tc).ty.Contents (Elt F)) (fp : PBuf F) :
    iprop((gBar (PP X) K 0 c ∗ gBar (PP X) K 1 c ∗ gBar (PP X) K 2 c ∗ gBar (PP X) K 3 c ∗ gBar (PP X) K 4 c)
        ∗ ((∃ f, slotPts 0 c f) ∗ (∃ f, slotPts 1 c f) ∗ (∃ f, slotPts 2 c f) ∗ (∃ f, slotPts 3 c f) ∗ (∃ f, slotPts 4 c f))
        ∗ (gCopy (PP X) K 0 c ∗ gCopy (PP X) K 1 c ∗ gCopy (PP X) K 2 c ∗ gCopy (PP X) K 3 c ∗ gCopy (PP X) K 4 c)
        ∗ (gSend (PP X) K 0 c ∗ gSend (PP X) K 1 c ∗ gSend (PP X) K 2 c ∗ gSend (PP X) K 3 c ∗ gSend (PP X) K 4 c)
        ∗ (gRecv (PP X) K 0 c ∗ gRecv (PP X) K 1 c ∗ gRecv (PP X) K 2 c ∗ gRecv (PP X) K 3 c ∗ gRecv (PP X) K 4 c)
        ∗ (gFin (PP X) K 0 c ∗ gFin (PP X) K 1 c ∗ gFin (PP X) K 2 c ∗ gFin (PP X) K 3 c ∗ gFin (PP X) K 4 c)
        ∗ gBarW (PP X) K c ∗ gFinW (PP X) K c ∗ levAts L lv ∗ owesX c (owe c 15)
        ∗ ((Memref.whole cc0_stg0_0).view.loc (c : Thread nD τ) ↦{fullShare} (X c).x) ∗ ((Memref.whole cc0_stg1_0).view.loc (c : Thread nD τ) ↦{fullShare} (X c).wq)
        ∗ ((Memref.whole cc0_stg2_0).view.loc (c : Thread nD τ) ↦{fullShare} (X c).k) ∗ ((Memref.whole cc0_stg3_0).view.loc (c : Thread nD τ) ↦{fullShare} (X c).v)
        ∗ ((Memref.whole cc0_stg4_0).view.loc (c : Thread nD τ) ↦{fullShare} (X c).wo) ∗ ((Memref.whole cc0_stg5_0).view.loc (c : Thread nD τ) ↦{fullShare} f5)
        ∗ ((Memref.whole cc0_scratch0).view.loc (c : Thread nD τ) ↦{fullShare} fp)
        ∗ ((((Memref.whole cc0_stg0_0).view.loc (c : Thread nD τ) ↦{fullShare} (X c).x) ∗ ((Memref.whole cc0_stg1_0).view.loc (c : Thread nD τ) ↦{fullShare} (X c).wq)
            ∗ ((Memref.whole cc0_stg2_0).view.loc (c : Thread nD τ) ↦{fullShare} (X c).k) ∗ ((Memref.whole cc0_stg3_0).view.loc (c : Thread nD τ) ↦{fullShare} (X c).v)
            ∗ ((Memref.whole cc0_stg4_0).view.loc (c : Thread nD τ) ↦{fullShare} (X c).wo)
            ∗ ((Memref.whole cc0_stg5_0).view.loc (c : Thread nD τ) ↦{fullShare} outV (St X 5 c) (X c).wo)
            ∗ ((Memref.whole cc0_scratch0).view.loc (c : Thread nD τ) ↦{fullShare} pack (St X 5 c))
            ∗ (slotPts 0 c (landed 0 (PP X 0 (pt 0 c))) ∗ slotPts 1 c (landed 1 (PP X 1 (pt 1 c))) ∗ slotPts 2 c (landed 2 (PP X 2 (pt 2 c)))
              ∗ slotPts 3 c (landed 3 (PP X 3 (pt 3 c))) ∗ slotPts 4 c (landed 4 (PP X 4 (pt 4 c))))
            ∗ semVal (barC c) 0 ∗ semVal (finC c) 0
            ∗ (semVal (sendC 0 c) 0 ∗ semVal (sendC 1 c) 0 ∗ semVal (sendC 2 c) 0 ∗ semVal (sendC 3 c) 0 ∗ semVal (sendC 4 c) 0)
            ∗ (semVal (recvC 0 c) 0 ∗ semVal (recvC 1 c) 0 ∗ semVal (recvC 2 c) 0 ∗ semVal (recvC 3 c) 0 ∗ semVal (recvC 4 c) 0)
            ∗ owesX c (owe c 0)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 cc0_scoped0) Kt := by
  iintro ⟨⟨B0, B1, B2, B3, B4⟩, ⟨S0, S1, S2, S3, S4⟩, ⟨C0, C1, C2, C3, C4⟩, ⟨E0, E1, E2, E3, E4⟩, ⟨R0, R1, R2, R3, R4⟩, ⟨N0, N1, N2, N3, N4⟩,
    BW, NW, #Hlev, HO, H0, H1, H2, H3, H4, H5, Hp, HK⟩
  rw [cc0_body_eq_skeleton]; delta cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton]
  sl_exec
  iapply (step_bar (PP X) K 0 c _ (dev1_eq c) _ rfl _ rfl (owe c 15) (owe c 14) rfl) $$ [B0 S0 HO]
  · isplitl [B0]; · iexact B0
    isplitl [S0] <;> iassumption
  iintro HO
  sl_exec
  iapply (step_bar (PP X) K 1 c _ (dev2_eq c) _ rfl _ rfl (owe c 14) (owe c 13) rfl) $$ [B1 S1 HO]
  · isplitl [B1]; · iexact B1
    isplitl [S1] <;> iassumption
  iintro HO
  sl_exec
  iapply (step_bar (PP X) K 2 c _ (dev3_eq c) _ rfl _ rfl (owe c 13) (owe c 12) rfl) $$ [B2 S2 HO]
  · isplitl [B2]; · iexact B2
    isplitl [S2] <;> iassumption
  iintro HO
  sl_exec
  iapply (step_bar (PP X) K 3 c _ (dev4_eq c) _ rfl _ rfl (owe c 12) (owe c 11) rfl) $$ [B3 S3 HO]
  · isplitl [B3]; · iexact B3
    isplitl [S3] <;> iassumption
  iintro HO
  sl_exec
  iapply (step_bar (PP X) K 4 c _ (dev5_eq c) _ rfl _ rfl (owe c 11) (owe c 10) rfl) $$ [B4 S4 HO]
  · isplitl [B4]; · iexact B4
    isplitl [S4] <;> iassumption
  iintro HO
  sl_exec
  iapply (step_barW (PP X) K c _ rfl _ rfl) $$ [BW HO]
  · isplitl [BW]; · iexact BW
    isplitl [HO]; · iexact HO
    iexact Hlev
  iintro HO ⟨D0, D1, D2, D3, D4⟩ ZB
  sl_exec
  ihave Hq := (to_pPts c _ (PP X 0 c) (own_writes (X c) c _)) $$ [Hp]
  · iexact Hp
  iapply (step_copy (PP X) K 0 c _ (dev6_eq c) _ _ rfl rfl _ rfl (owe c 10) (owe c 9) rfl) $$ [C0 Hq D0 HO]
  · isplitl [C0]; · iexact C0
    isplitl [Hq]; · iexact Hq
    isplitl [D0]; · iexact D0
    iexact HO
  iintro HO Hc
  sl_exec
  iapply (step_sendW (PP X) K 0 c 9 (by decide) _ rfl _) $$ [E0 Hc HO]
  · isplitl [E0]; · iexact E0
    isplitl [Hc]; · iexact Hc
    isplitl [HO]; · iexact HO
    iexact Hlev
  iintro HO Hq ZS0
  sl_exec
  iapply (step_recvW (PP X) K 0 c 9 (by decide) _ rfl _ rfl) $$ [R0 HO]
  · isplitl [R0]; · iexact R0
    isplitl [HO]; · iexact HO
    iexact Hlev
  iintro HO HL0 ZR0
  ihave Hp := (of_pPts c _) $$ [Hq]
  · iexact Hq
  delta slotPts PP
  sl_exec
  ihave Hq := (to_pPts c _ (PP X 1 c) ((mrg_writes 0 (St X 0 c) (St X 0 (pt 0 c)) _).trans (congrArg pack (St_succ X 0 c).symm))) $$ [Hp]
  · iexact Hp
  iapply (step_copy (PP X) K 1 c _ (dev7_eq c) _ _ rfl rfl _ rfl (owe c 9) (owe c 8) rfl) $$ [C1 Hq D1 HO]
  · isplitl [C1]; · iexact C1
    isplitl [Hq]; · iexact Hq
    isplitl [D1]; · iexact D1
    iexact HO
  iintro HO Hc
  sl_exec
  iapply (step_sendW (PP X) K 1 c 8 (by decide) _ rfl _) $$ [E1 Hc HO]
  · isplitl [E1]; · iexact E1
    isplitl [Hc]; · iexact Hc
    isplitl [HO]; · iexact HO
    iexact Hlev
  iintro HO Hq ZS1
  sl_exec
  iapply (step_recvW (PP X) K 1 c 8 (by decide) _ rfl _ rfl) $$ [R1 HO]
  · isplitl [R1]; · iexact R1
    isplitl [HO]; · iexact HO
    iexact Hlev
  iintro HO HL1 ZR1
  ihave Hp := (of_pPts c _) $$ [Hq]
  · iexact Hq
  delta slotPts PP
  sl_exec
  ihave Hq := (to_pPts c _ (PP X 2 c) ((mrg_writes 1 (St X 1 c) (St X 1 (pt 1 c)) _).trans (congrArg pack (St_succ X 1 c).symm))) $$ [Hp]
  · iexact Hp
  iapply (step_copy (PP X) K 2 c _ (dev8_eq c) _ _ rfl rfl _ rfl (owe c 8) (owe c 7) rfl) $$ [C2 Hq D2 HO]
  · isplitl [C2]; · iexact C2
    isplitl [Hq]; · iexact Hq
    isplitl [D2]; · iexact D2
    iexact HO
  iintro HO Hc
  sl_exec
  iapply (step_sendW (PP X) K 2 c 7 (by decide) _ rfl _) $$ [E2 Hc HO]
  · isplitl [E2]; · iexact E2
    isplitl [Hc]; · iexact Hc
    isplitl [HO]; · iexact HO
    iexact Hlev
  iintro HO Hq ZS2
  sl_exec
  iapply (step_recvW (PP X) K 2 c 7 (by decide) _ rfl _ rfl) $$ [R2 HO]
  · isplitl [R2]; · iexact R2
    isplitl [HO]; · iexact HO
    iexact Hlev
  iintro HO HL2 ZR2
  ihave Hp := (of_pPts c _) $$ [Hq]
  · iexact Hq
  delta slotPts PP
  sl_exec
  ihave Hq := (to_pPts c _ (PP X 3 c) ((mrg_writes 2 (St X 2 c) (St X 2 (pt 2 c)) _).trans (congrArg pack (St_succ X 2 c).symm))) $$ [Hp]
  · iexact Hp
  iapply (step_copy (PP X) K 3 c _ (dev9_eq c) _ _ rfl rfl _ rfl (owe c 7) (owe c 6) rfl) $$ [C3 Hq D3 HO]
  · isplitl [C3]; · iexact C3
    isplitl [Hq]; · iexact Hq
    isplitl [D3]; · iexact D3
    iexact HO
  iintro HO Hc
  sl_exec
  iapply (step_sendW (PP X) K 3 c 6 (by decide) _ rfl _) $$ [E3 Hc HO]
  · isplitl [E3]; · iexact E3
    isplitl [Hc]; · iexact Hc
    isplitl [HO]; · iexact HO
    iexact Hlev
  iintro HO Hq ZS3
  sl_exec
  iapply (step_recvW (PP X) K 3 c 6 (by decide) _ rfl _ rfl) $$ [R3 HO]
  · isplitl [R3]; · iexact R3
    isplitl [HO]; · iexact HO
    iexact Hlev
  iintro HO HL3 ZR3
  ihave Hp := (of_pPts c _) $$ [Hq]
  · iexact Hq
  delta slotPts PP
  sl_exec
  ihave Hq := (to_pPts c _ (PP X 4 c) ((mrg_writes 3 (St X 3 c) (St X 3 (pt 3 c)) _).trans (congrArg pack (St_succ X 3 c).symm))) $$ [Hp]
  · iexact Hp
  iapply (step_copy (PP X) K 4 c _ (dev10_eq c) _ _ rfl rfl _ rfl (owe c 6) (owe c 5) rfl) $$ [C4 Hq D4 HO]
  · isplitl [C4]; · iexact C4
    isplitl [Hq]; · iexact Hq
    isplitl [D4]; · iexact D4
    iexact HO
  iintro HO Hc
  sl_exec
  iapply (step_sendW (PP X) K 4 c 5 (by decide) _ rfl _) $$ [E4 Hc HO]
  · isplitl [E4]; · iexact E4
    isplitl [Hc]; · iexact Hc
    isplitl [HO]; · iexact HO
    iexact Hlev
  iintro HO Hq ZS4
  sl_exec
  iapply (step_recvW (PP X) K 4 c 5 (by decide) _ rfl _ rfl) $$ [R4 HO]
  · isplitl [R4]; · iexact R4
    isplitl [HO]; · iexact HO
    iexact Hlev
  iintro HO HL4 ZR4
  ihave Hp := (of_pPts c _) $$ [Hq]
  · iexact Hq
  delta slotPts PP
  sl_exec
  ihave Hp := (hp_eq c _ (pack (St X 5 c)) ((mrg_writes 4 (St X 4 c) (St X 4 (pt 4 c)) _).trans (congrArg pack (St_succ X 4 c).symm))) $$ [Hp]
  · iexact Hp
  iapply (step_fin (PP X) K 0 c _ (dev11_eq c) _ rfl _ rfl (owe c 5) (owe c 4) rfl) $$ [N0 HO]
  · isplitl [N0]; · iexact N0
    iexact HO
  iintro HO
  sl_exec
  iapply (step_fin (PP X) K 1 c _ (dev12_eq c) _ rfl _ rfl (owe c 4) (owe c 3) rfl) $$ [N1 HO]
  · isplitl [N1]; · iexact N1
    iexact HO
  iintro HO
  sl_exec
  iapply (step_fin (PP X) K 2 c _ (dev13_eq c) _ rfl _ rfl (owe c 3) (owe c 2) rfl) $$ [N2 HO]
  · isplitl [N2]; · iexact N2
    iexact HO
  iintro HO
  sl_exec
  iapply (step_fin (PP X) K 3 c _ (dev14_eq c) _ rfl _ rfl (owe c 2) (owe c 1) rfl) $$ [N3 HO]
  · isplitl [N3]; · iexact N3
    iexact HO
  iintro HO
  sl_exec
  iapply (step_fin (PP X) K 4 c _ (dev15_eq c) _ rfl _ rfl (owe c 1) (owe c 0) rfl) $$ [N4 HO]
  · isplitl [N4]; · iexact N4
    iexact HO
  iintro HO
  sl_exec
  iapply (step_finW (PP X) K c _ rfl _ rfl) $$ [NW HO]
  · isplitl [NW]; · iexact NW
    isplitl [HO]; · iexact HO
    iexact Hlev
  iintro HO ZF
  sl_exec
  ihave H5 := (h5_eq c _ (outV (St X 5 c) (X c).wo) ((out_writes' (St X 4 c) (St X 4 (pt 4 c)) (X c).wo f5 _ _ rfl rfl).trans
    (congrArg (fun s => outV s (X c).wo) (St_succ X 4 c).symm))) $$ [H5]
  · iexact H5
  rw [wp_ret]; imodintro
  iapply HK
  isplitl [H0]; · iexact H0
  isplitl [H1]; · iexact H1
  isplitl [H2]; · iexact H2
  isplitl [H3]; · iexact H3
  isplitl [H4]; · iexact H4
  isplitl [H5]; · iexact H5
  isplitl [Hp]; · iexact Hp
  isplitl [HL0 HL1 HL2 HL3 HL4]
  · isplitl [HL0]; · iexact HL0
    isplitl [HL1]; · iexact HL1
    isplitl [HL2]; · iexact HL2
    isplitl [HL3]; · iexact HL3
    iexact HL4
  isplitl [ZB]; · iexact ZB
  isplitl [ZF]; · iexact ZF
  isplitl [ZS0 ZS1 ZS2 ZS3 ZS4]
  · isplitl [ZS0]; · iexact ZS0
    isplitl [ZS1]; · iexact ZS1
    isplitl [ZS2]; · iexact ZS2
    isplitl [ZS3]; · iexact ZS3
    iexact ZS4
  isplitl [ZR0 ZR1 ZR2 ZR3 ZR4]
  · isplitl [ZR0]; · iexact ZR0
    isplitl [ZR1]; · iexact ZR1
    isplitl [ZR2]; · iexact ZR2
    isplitl [ZR3]; · iexact ZR3
    iexact ZR4
  iexact HO

end Cert.KernelIdealProof

end
-- ==== Proof.Run.lean ====
/-
# The butterfly's run

From any memory with zero counters the thirty-two devices' kernels terminate, every argument array unchanged, every result
array holding the closed form of the contents, every semaphore counter at zero.
-/
module

public import Idealize.ShloMosaic.Lib.Quiescent
public import Idealize.ShloMosaic.Lib.Pipeline.CollectiveSegs
public import proofs.«01_k».proof.Proof.Cells
public import proofs.«01_k».proof.Proof.Body
public import proofs.«01_k».proof.Proof.Gen.KernelIdeal.Frame
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the staging buffers of device `c`'s five inputs hold. -/
def inpOf (c : Dev nD) : Inp F where
  x := iblk m c 0 t0_0
  wq := iblk m c 1 t0_0
  k := iblk m c 2 t0_0
  v := iblk m c 3 t0_0
  wo := iblk m c 4 t0_0

/-- The result block of device `c`. -/
def res (c : Dev nD) : (cc0_stg5_0 : Ref sig .tc).ty.Contents (Elt F) := outV (St (inpOf m) 5 c) (inpOf m c).wo

/-- What device `c`'s body starts from beside its buffers. -/
def start (c : Dev nD) : sProp 𝕄 := iprop((∃ K, ghost (PP (inpOf m)) K c) ∗ crs c ∗ levAts L lv)

/-- Before the body: that, the send buffer and the five slots of the landing buffer at some contents. -/
def Φ₀ (c : Dev nD) : sProp 𝕄 :=
  iprop(start m c ∗ (∃ f, ((c : Thread nD τ).loc cc0_scratch0) ↦{fullShare} f) ∗ bigSep Finset.univ fun k : Fin 5 => iprop(∃ f, slotPts k c f))
/-- After it: the two buffers at some contents and every cell closed at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ unscopedSems0 c ∗ Pipeline.ownSems0 osem c)

/-- The pipeline's proof data. -/
def dats (_ : Fin 1) (c : Dev nD) : Dat τ (Elt F) Unit ℕ UU ℕ cfg0 c where
  A w := m ((cfg0.win w).arr.view.loc (c : Thread nD τ))
  after w _ := match w with
    | ⟨0, _⟩ => (inpOf m c).x
    | ⟨1, _⟩ => (inpOf m c).wq
    | ⟨2, _⟩ => (inpOf m c).k
    | ⟨3, _⟩ => (inpOf m c).v
    | ⟨4, _⟩ => (inpOf m c).wo
    | ⟨5, _⟩ => res m c
  Φ t := match t with
    | ⟨0, _⟩ => Φ₀ m c
    | ⟨_ + 1, _⟩ => Φ₁ c
  q _ := fullShare
  owed t := match t with
    | ⟨0, _⟩ => owe c 15
    | ⟨_ + 1, _⟩ => owe c 0

omit [FloatOps F] in
/-- A staging buffer held as the pipeline says it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition as the pipeline hands it, -/
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
/-- and its postcondition as it wants it. -/
def bodyPost (c : Dev nD) : sProp 𝕄 :=
  iprop(Φ₁ c ∗ (dats m 0 c).owesAt () t0_0.succ
    ∗ stg c cc0_stg0_0 (inpOf m c).x ∗ stg c cc0_stg1_0 (inpOf m c).wq ∗ stg c cc0_stg2_0 (inpOf m c).k
    ∗ stg c cc0_stg3_0 (inpOf m c).v ∗ stg c cc0_stg4_0 (inpOf m c).wo ∗ stg c cc0_stg5_0 (res m c))

theorem fetch_0 : (cfg0.win (0 : Fin 6)).fetch t0_0 = true := by rfl
theorem fetch_1 : (cfg0.win (1 : Fin 6)).fetch t0_0 = true := by rfl
theorem fetch_2 : (cfg0.win (2 : Fin 6)).fetch t0_0 = true := by rfl
theorem fetch_3 : (cfg0.win (3 : Fin 6)).fetch t0_0 = true := by rfl
theorem fetch_4 : (cfg0.win (4 : Fin 6)).fetch t0_0 = true := by rfl

theorem before_0 (c : Dev nD) (d) : (dats m 0 c).before (0 : Fin 6) t0_0 d = (inpOf m c).x := by unfold Dat.before; rw [if_pos fetch_0]; rfl
theorem before_1 (c : Dev nD) (d) : (dats m 0 c).before (1 : Fin 6) t0_0 d = (inpOf m c).wq := by unfold Dat.before; rw [if_pos fetch_1]; rfl
theorem before_2 (c : Dev nD) (d) : (dats m 0 c).before (2 : Fin 6) t0_0 d = (inpOf m c).k := by unfold Dat.before; rw [if_pos fetch_2]; rfl
theorem before_3 (c : Dev nD) (d) : (dats m 0 c).before (3 : Fin 6) t0_0 d = (inpOf m c).v := by unfold Dat.before; rw [if_pos fetch_3]; rfl
theorem before_4 (c : Dev nD) (d) : (dats m 0 c).before (4 : Fin 6) t0_0 d = (inpOf m c).wo := by unfold Dat.before; rw [if_pos fetch_4]; rfl

omit [FloatOps F] in
/-- The own semaphores back from the closed cells. -/
theorem own_back (c : Dev nD) :
    iprop(semVal (finC c) 0 ∗ (semVal (sendC 0 c) 0 ∗ semVal (sendC 1 c) 0 ∗ semVal (sendC 2 c) 0 ∗ semVal (sendC 3 c) 0 ∗ semVal (sendC 4 c) 0)
      ∗ (semVal (recvC 0 c) 0 ∗ semVal (recvC 1 c) 0 ∗ semVal (recvC 2 c) 0 ∗ semVal (recvC 3 c) 0 ∗ semVal (recvC 4 c) 0))
      ⊢ (Pipeline.ownSems0 (Ix := Unit) (Name := ℕ) (U := UU) (Lvl := ℕ) (Val := Elt F) (τ := τ) osem c : sProp 𝕄) := by
  rw [ownSems0_eq]
  iintro ⟨HF, ⟨S0, S1, S2, S3, S4⟩, HR⟩
  isplitl [HF]; · iexact HF
  isplitl [S0]; · iexact S0
  isplitl [S1]; · iexact S1
  isplitl [S2]; · iexact S2
  isplitl [S3]; · iexact S3
  isplitl [S4]; · iexact S4
  iexact HR

attribute [local irreducible] inpOf res iblk outV St ghost crs in
set_option maxRecDepth 20000 in
/-- The body meets what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 cc0_scoped0)
    (fun _ => bodyPost m c)
  unfold bodyPre Φ₀ start crs ghost
  simp only [bigSep_five]
  simp only [before_0, before_1, before_2, before_3, before_4]
  iintro ⟨⟨⟨⟨%K, B, C, E, ⟨R0, R1, R2, R3, R4⟩, N, ⟨bI, bA⟩, ⟨fI, fA⟩⟩, ⟨cB, cF, c0, c1, c2, c3, c4⟩, #Hlev⟩, ⟨%fp, Hp⟩, S⟩, Ho,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  iapply (sound_body (inpOf m) K c (fun _ => bodyPost m c) g5 fp)
  isplitl [B]; · iexact B
  isplitl [S]; · iexact S
  isplitl [C]; · iexact C
  isplitl [E]; · iexact E
  isplitl [R0 R1 R2 R3 R4 c0 c1 c2 c3 c4]
  · unfold gRecv
    icases R0 with ⟨I0, A0⟩
    icases R1 with ⟨I1, A1⟩
    icases R2 with ⟨I2, A2⟩
    icases R3 with ⟨I3, A3⟩
    icases R4 with ⟨I4, A4⟩
    isplitl [I0 A0 c0]
    · isplitl [I0]; · iexact I0
      isplitl [A0] <;> iassumption
    isplitl [I1 A1 c1]
    · isplitl [I1]; · iexact I1
      isplitl [A1] <;> iassumption
    isplitl [I2 A2 c2]
    · isplitl [I2]; · iexact I2
      isplitl [A2] <;> iassumption
    isplitl [I3 A3 c3]
    · isplitl [I3]; · iexact I3
      isplitl [A3] <;> iassumption
    · isplitl [I4]; · iexact I4
      isplitl [A4] <;> iassumption
  isplitl [N]; · iexact N
  isplitl [bI bA cB]
  · unfold gBarW
    isplitl [bI]; · iexact bI
    isplitl [bA] <;> iassumption
  isplitl [fI fA cF]
  · unfold gFinW
    isplitl [fI]; · iexact fI
    isplitl [fA] <;> iassumption
  isplitr; · iexact Hlev
  isplitl [HO]; · unfold owesX; iexists W; iexact HO
  isplitl [H0]; · iexact H0
  isplitl [H1]; · iexact H1
  isplitl [H2]; · iexact H2
  isplitl [H3]; · iexact H3
  isplitl [H4]; · iexact H4
  isplitl [H5]; · iexact H5
  isplitl [Hp]; · iexact Hp
  iintro ⟨H0, H1, H2, H3, H4, H5, Hp, S, ZB, ZF, ZS, ZR, HO⟩
  unfold bodyPost Φ₁ Dat.owesAt Pipeline.owesWithin owesX
  icases HO with ⟨%W', HO⟩
  isplitl [Hp S ZB ZF ZS ZR]
  · isplitl [Hp]; · iexists (pack (St (inpOf m) 5 c)); iexact Hp
    isplitl [S]
    · iapply (join_slots c fun k => landed k (PP (inpOf m) k (pt k c)))
      rw [bigSep_five]; iexact S
    isplitl [ZB]; · rw [unscopedSems0_eq]; iexact ZB
    iapply (own_back (F := F) c)
    isplitl [ZF]; · iexact ZF
    isplitl [ZS] <;> iassumption
  isplitl [HO]
  · iexists W'
    isplitr
    · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  unfold res; iexact H5

/-! ## The launch -/

theorem ownSemFacts : Pipeline.OwnSemFacts cfg0.spec osem := by decide

theorem share_eq (c : Dev nD) (w : Fin cfg0.W) : (dats m 0 c).share w = fullShare := by unfold Dat.share; split <;> rfl

/-- A device starts with its bundles, its credits and the levels. -/
theorem start_intro (c : Dev nD) :
    iprop(Pipeline.unscopedRestP Pipeline.Prefetch.none cfg0.spec c (fun b => m ((c : Thread nD τ).loc b)) ∗ levAts L lv
        ∗ Pipeline.launchCred (fun d => owe d 15) c ∗ prngReg c (ρ c) ∗ (∃ K, ghost (PP (inpOf m)) K c))
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- It enters the body with the two scratch buffers, the landing buffer cut into slots, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hp, ⟨%f, Hc⟩⟩
  isplitl [Hs]; · iexact Hs
  isplitl [Hp]; · iexact Hp
  iapply (split_slots c f); iexact Hc

/-- and leaves it with them and every semaphore at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro ⟨Hp, Hc, Hu, Ho⟩
  isplitl [Hu]; · iexact Hu
  isplitl [Ho]; · iexact Ho
  isplitl [Hp] <;> iassumption

/-- The pipeline's own waits are below everything owed. -/
theorem waits (c : Dev nD) : (levAts L lv : sProp 𝕄) ⊢ Pipeline.cellsWaits cfgs (dats m) () 0 c :=
  Pipeline.cellsWaits_intro cfgs (dats m) () 0 c fun w s t => by
    have h (sm : SemLoc sig) (hs : role sm = .other) (n : ℕ) : (levAts L lv : sProp 𝕄) ⊢ MayWait (c : Thread nD τ) sm () (owe c n) :=
      mayWait_owe c sm n fun j _ => by
        have : lv ((c : Thread nD τ), sm) () = 0 := by unfold lv; rw [hs]
        rw [this]; exact (show ∀ j : Fin 15, 0 < dueLv j by decide) j
    have hr : role (.dma ((cfg0.win w).sem s)) = .other := by revert w s; decide
    rcases t with ⟨_ | _, ht⟩
    · exact h _ hr 15
    · exact h _ hr 0

/-! ## The run -/

/-- What array `w` of device `c` ends holding. -/
def finalA (c : Dev nD) (w : Fin cfg0.W) : Buf (Elt F) ((cfg0.win w).arr.view.loc (c : Thread nD τ)) := (dats m 0 c).arrAt w cfg0.N

set_option maxRecDepth 8000 in
/-- The thirty-two kernels terminate, each array at its contents, each counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe d 15) (howed₀ := fun _ => rfl) (howedN := fun _ => rfl)
    (L := L) (lv := lv) (hL := L_of_ne) (hwaits := waits m)
    (G := G (PP (inpOf m))) (G' := fun c => iprop(∃ K, ghost (PP (inpOf m)) K c)) (u₀ := u₀)
    (hu₀ := by
      unfold u₀
      iintro Hu
      ihave H := (ownU_pair _ _) $$ Hu
      icases H with ⟨HP, HX⟩
      imod (fund_all (PP (inpOf m))) $$ HX with HG
      imodintro
      isplitl [HP] <;> iassumption)
    (hglob := glob (PP (inpOf m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array of device `c` ends at its result block. -/
theorem final_out (c : Dev nD) : finalA m c (5 : Fin 6) = res m c :=
  (dats m 0 c).arrAt_eq_of_after_last (5 : Fin 6) t0_0 (by decide +kernel) _ fun j => rfl

/-- The run, read at the six arrays: the arguments unchanged, the result at its closed form. -/
theorem run_read : θ_run defs (onTc (τ := τ) (main (F := F))) ⟨m, fun _ => 0, ρ⟩ (fun r =>
    (∀ c : Dev nD, r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (final_out m c),
      (h.1 c (0 : Fin 6)).trans ((dats m 0 c).arrAt_in (0 : Fin 6) rfl _), (h.1 c (1 : Fin 6)).trans ((dats m 0 c).arrAt_in (1 : Fin 6) rfl _),
      (h.1 c (2 : Fin 6)).trans ((dats m 0 c).arrAt_in (2 : Fin 6) rfl _), (h.1 c (3 : Fin 6)).trans ((dats m 0 c).arrAt_in (3 : Fin 6) rfl _),
      (h.1 c (4 : Fin 6)).trans ((dats m 0 c).arrAt_in (4 : Fin 6) rfl _)⟩, h.2⟩) (run_main m ρ)

end Cert.KernelIdealProof

end
-- ==== Proof.Frames.lean ====
/-
# The frames

Each of the three programs terminates with its arguments unchanged and every semaphore counter at zero.
-/
module

public import proofs.«01_k».proof.Defs
public import proofs.«01_k».proof.Proof.Run
public import proofs.«01_k».proof.Proof.Bits.Run
public import proofs.«01_k».proof.Proof.Gen.ReferenceIdeal.Run
public import Idealize.ShloMosaic.Lib.Quiescent

@[expose] public section

noncomputable section

namespace Cert.Frames

open Idealize.ShloMosaic Idealize.SL.Sem

/-- The kernel on words. -/
theorem kernel : Cert.quiescent_Kernel (hKernel := Cert.Kernel.Gen.facts) := fun m ρ _ =>
  (θ_run Cert.Kernel.defs _ _).mono (fun _ h => ⟨fun c => (h.1 c).2, h.2⟩)
    (Cert.KernelProof.run_read (F := Bits) m ρ)

/-- The kernel on extended reals. -/
theorem kernelIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdealProof.run_read (F := Ideal) m ρ)

/-- The reference on extended reals. -/
theorem reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Frames

end
-- ==== Proof.Value.Softmax.lean ====
/-
# A softmax computed in pieces

A weighted average with exponential weights, computed from parts of its terms: each part carries a reference value,
the sum of its weights relative to it and the weighted sum of the values (`IsSt`). Two disjoint parts merge
(`IsSt.merge`), and the quotient does not depend on the reference value (`IsSt.quot`). The scores are reals; the
values may be any extended reals.
-/
module

public import Idealize.ShloMosaic.PureOps.Ideal.Laws

@[expose] public section

noncomputable section

namespace Cert.Value

open Idealize.ShloMosaic
open scoped BigOperators

/-- A nonnegative real factor distributes over a sum of extended reals. -/
theorem mul_sum_coe {ι : Type} (S : Finset ι) (f : ι → EReal) (r : ℝ) (hr : 0 ≤ r) :
    (r : EReal) * ∑ j ∈ S, f j = ∑ j ∈ S, (r : EReal) * f j := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

/-- A sum of reals, as an extended real. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The greater of two reals, as an extended real. -/
theorem coe_max (a b : ℝ) : ((max a b : ℝ) : EReal) = max (a : EReal) (b : EReal) := EReal.coe_strictMono.monotone.map_max

/-- The exponential of a real. -/
theorem exp_coe (r : ℝ) : Ideal.exp (r : EReal) = (Real.exp r : EReal) := rfl

/-- The quotient of a real by a positive real. -/
theorem div_coe_pos (x : EReal) (r : ℝ) (hr : 0 < r) : Ideal.div x (r : EReal) = ((r⁻¹ : ℝ) : EReal) * x := by
  unfold Ideal.div
  rw [if_neg (by exact_mod_cast hr.ne'), mul_comm, ← EReal.coe_inv]

/-- `m`, `l`, `a` are a softmax's state over the terms of `S`, with scores `σ` and values `v`: `m` is a real, `l` the sum
of the exponentials of the scores less `m`, and `a` the sum of the values they weigh. -/
def IsSt {ι : Type} (σ : ι → ℝ) (v : ι → EReal) (S : Finset ι) (m l a : EReal) : Prop :=
  ∃ μ : ℝ, m = μ ∧ l = ∑ j ∈ S, ((Real.exp (σ j - μ) : ℝ) : EReal) ∧ a = ∑ j ∈ S, ((Real.exp (σ j - μ) : ℝ) : EReal) * v j

/-- Weights relative to one real, times the exponential of its distance to another, are relative to the other. -/
theorem rebase {ι : Type} (σ : ι → ℝ) (S : Finset ι) (f : ι → EReal) (μ ν : ℝ) :
    (∑ j ∈ S, ((Real.exp (σ j - μ) : ℝ) : EReal) * f j) * Ideal.exp ((μ : EReal) - (ν : EReal))
      = ∑ j ∈ S, ((Real.exp (σ j - ν) : ℝ) : EReal) * f j := by
  rw [← EReal.coe_sub, exp_coe, mul_comm, mul_sum_coe _ _ _ (Real.exp_pos _).le]
  refine Finset.sum_congr rfl fun j _ => ?_
  rw [← mul_assoc, ← EReal.coe_mul, ← Real.exp_add]
  congr 3
  ring

/-- The same for the weights alone. -/
theorem rebase_one {ι : Type} (σ : ι → ℝ) (S : Finset ι) (μ ν : ℝ) :
    (∑ j ∈ S, ((Real.exp (σ j - μ) : ℝ) : EReal)) * Ideal.exp ((μ : EReal) - (ν : EReal))
      = ∑ j ∈ S, ((Real.exp (σ j - ν) : ℝ) : EReal) := by
  have := rebase σ S (fun _ => 1) μ ν
  simpa only [mul_one] using this

/-- The states of two disjoint sets of terms, rescaled to the greater of the two reference values and added, are a state of the
union. -/
theorem IsSt.merge {ι : Type} [DecidableEq ι] {σ : ι → ℝ} {v : ι → EReal} {S T : Finset ι} {m l a m' l' a' : EReal}
    (h : IsSt σ v S m l a) (h' : IsSt σ v T m' l' a') (hd : Disjoint S T) :
    IsSt σ v (S ∪ T) (max m m') (l * Ideal.exp (m - max m m') + l' * Ideal.exp (m' - max m m'))
      (a * Ideal.exp (m - max m m') + a' * Ideal.exp (m' - max m m')) := by
  obtain ⟨μ, rfl, rfl, rfl⟩ := h
  obtain ⟨μ', rfl, rfl, rfl⟩ := h'
  refine ⟨max μ μ', (coe_max μ μ').symm, ?_, ?_⟩
  · rw [← coe_max, rebase_one, rebase_one, Finset.sum_union hd]
  · rw [← coe_max, rebase, rebase, Finset.sum_union hd]

/-- The softmax's average: the values weighted by the exponentials' shares. -/
def avg {ι : Type} (σ : ι → ℝ) (v : ι → EReal) (S : Finset ι) : EReal :=
  ∑ j ∈ S, ((Real.exp (σ j) / ∑ i ∈ S, Real.exp (σ i) : ℝ) : EReal) * v j

/-- A share does not depend on the reference value. -/
theorem share {ι : Type} (σ : ι → ℝ) (S : Finset ι) (hS : S.Nonempty) (μ : ℝ) (j : ι) :
    (∑ i ∈ S, Real.exp (σ i - μ))⁻¹ * Real.exp (σ j - μ) = Real.exp (σ j) / ∑ i ∈ S, Real.exp (σ i) := by
  have hp : 0 < ∑ i ∈ S, Real.exp (σ i) := Finset.sum_pos (fun i _ => Real.exp_pos _) hS
  have e : ∀ i, Real.exp (σ i - μ) = Real.exp (σ i) * Real.exp (-μ) := fun i => by rw [← Real.exp_add, sub_eq_add_neg]
  simp only [e, ← Finset.sum_mul]
  have := (Real.exp_pos (-μ)).ne'
  field_simp

/-- The weighted sum over the weights' sum is the average. -/
theorem IsSt.quot {ι : Type} {σ : ι → ℝ} {v : ι → EReal} {S : Finset ι} {m l a : EReal} (h : IsSt σ v S m l a) (hS : S.Nonempty) :
    Ideal.div a l = avg σ v S := by
  obtain ⟨μ, -, rfl, rfl⟩ := h
  have hp : 0 < ∑ i ∈ S, Real.exp (σ i - μ) := Finset.sum_pos (fun i _ => Real.exp_pos _) hS
  rw [← coe_sum, div_coe_pos _ _ hp, mul_sum_coe _ _ _ (inv_pos.mpr hp).le, avg]
  refine Finset.sum_congr rfl fun j _ => ?_
  rw [← mul_assoc, ← EReal.coe_mul, share σ S hS]

/-- The shares taken first, each the quotient of its exponential by their sum, give the same average. -/
theorem avg_of_shares {ι : Type} (σ : ι → ℝ) (v : ι → EReal) (S : Finset ι) (hS : S.Nonempty) (μ : ℝ) :
    ∑ j ∈ S, v j * Ideal.div ((Real.exp (σ j - μ) : ℝ) : EReal) (∑ i ∈ S, ((Real.exp (σ i - μ) : ℝ) : EReal)) = avg σ v S := by
  have hp : 0 < ∑ i ∈ S, Real.exp (σ i - μ) := Finset.sum_pos (fun i _ => Real.exp_pos _) hS
  refine Finset.sum_congr rfl fun j _ => ?_
  rw [← coe_sum, div_coe_pos _ _ hp, ← EReal.coe_mul, share σ S hS, mul_comm]

/-! ### Extended reals that are reals -/

/-- `x` is a real. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (S : Finset ι) (f : ι → EReal) (h : ∀ j, IsReal (f j)) : IsReal (∑ j ∈ S, f j) := by
  choose g hg using h
  exact ⟨∑ j ∈ S, g j, by rw [coe_sum]; exact Finset.sum_congr rfl fun j _ => hg j⟩

/-- A maximum of reals over a nonempty set, from an infinity below, is a real. -/
theorem isReal_fold_max {ι : Type} (S : Finset ι) (hS : S.Nonempty) (f : ι → EReal) (h : ∀ j, IsReal (f j)) :
    IsReal (S.fold max ⊥ f) := by
  classical
  have key : ∀ T : Finset ι, T.Nonempty → IsReal (T.fold max ⊥ f) := by
    intro T
    induction T using Finset.induction_on with
    | empty => intro h; exact absurd h Finset.not_nonempty_empty
    | insert a T ha ih =>
      intro _
      rw [Finset.fold_insert ha]
      rcases T.eq_empty_or_nonempty with rfl | hT
      · rw [Finset.fold_empty, max_bot_right]; exact h a
      · rcases max_choice (f a) (T.fold max ⊥ f) with e | e <;> rw [e]
        · exact h a
        · exact ih hT
  exact key S hS

/-- A real whose magnitude is below infinity. -/
theorem isReal_of_abs_lt_top {x : EReal} (h : max x (-x) < ⊤) : IsReal x := by
  induction x with
  | bot => simp at h
  | top => simp at h
  | coe r => exact ⟨r, rfl⟩

/-- The word of an eighth denotes a real, -/
theorem isReal_eighth : IsReal (Ideal.ofBits .f32 0x3E000000#32) := by
  simp only [Ideal.ofBits, Ideal.ieee]
  rw [if_neg (by decide), if_neg (by decide)]
  exact ⟨_, rfl⟩

/-- and so does the masked scores'; -/
theorem isReal_masked : IsReal (Ideal.ofBits .f32 0xCE6E6B28#32) := by
  simp only [Ideal.ofBits, Ideal.ieee]
  rw [if_neg (by decide), if_neg (by decide)]
  exact ⟨_, rfl⟩

/-- the maxima start at the lower infinity. -/
theorem ofBits_neg_inf : Ideal.ofBits .f32 0xFF800000#32 = ⊥ := by
  simp [Ideal.ofBits, Ideal.ieee]

end Cert.Value

end
-- ==== Proof.Value.Terms.lean ====
/-
# The reference's result in named pieces

The reference's result is one long term. Here it is built from small pieces: block numbers and the mask (`qBlk`, `kBlk`,
`keepM`), the projected queries and scores (`qR`, `scR`), their row maxima and weights (`mxR`, `exR`, `smR`, `wtR`), the
context (`cxR`) and the projection (`outR`).
-/
module

public import proofs.«01_k».proof.Proof.Gen.ReferenceIdeal.Run

@[expose] public section

noncomputable section

namespace Cert.Value

open Cert.ReferenceIdeal Cert.ReferenceIdeal.Gen Idealize.ShloMosaic Idealize.ShloMosaic.TcCoe Idealize.SL.Sem Idealize.ShloMosaic.StableHlo

variable {F : FTy → Type} [FloatOps F]

/-- The number 64 broadcast to a row of queries -/
def c64q : IVec S128 32 := broadcastInDim S128 ![] bcast_S_S128 (id (constantI S_ 32 64#32))
/-- and to a row of keys. -/
def c64k : IVec S4096 32 := broadcastInDim S4096 ![] bcast_S_S4096 (id (constantI S_ 32 64#32))

/-- The block number of each query, -/
def qBlk : IVec S128 32 :=
  select (andi (cmpi .ne (signi (iotaInDim S128 32 0)) (broadcastInDim S128 ![] bcast_S_S128 (signi (id (constantI S_ 32 64#32)))))
      (cmpi .ne (Host.remsi (iotaInDim S128 32 0) c64q) (broadcastInDim S128 ![] bcast_S_S128 (constantI S_ 32 0#32))))
    (subi (Host.divsi (iotaInDim S128 32 0) c64q) (broadcastInDim S128 ![] bcast_S_S128 (constantI S_ 32 1#32)))
    (Host.divsi (iotaInDim S128 32 0) c64q)

/-- and of each key. -/
def kBlk : IVec S4096 32 :=
  select (andi (cmpi .ne (signi (iotaInDim S4096 32 0)) (broadcastInDim S4096 ![] bcast_S_S4096 (signi (id (constantI S_ 32 64#32)))))
      (cmpi .ne (Host.remsi (iotaInDim S4096 32 0) c64k) (broadcastInDim S4096 ![] bcast_S_S4096 (constantI S_ 32 0#32))))
    (subi (Host.divsi (iotaInDim S4096 32 0) c64k) (broadcastInDim S4096 ![] bcast_S_S4096 (constantI S_ 32 1#32)))
    (Host.divsi (iotaInDim S4096 32 0) c64k)

/-- The divisor four, as the reference guards it against zero. -/
def four : IVec S_ 32 := select (cmpi .eq (id (constantI S_ 32 4#32)) (constantI S_ 32 0#32)) (constantI S_ 32 1#32) (id (constantI S_ 32 4#32))

/-- Keys' block numbers modulo four -/
def kMod (v : IVec S1x4096 32) : IVec S1x4096 32 :=
  select (andi (cmpi .ne (cmpi .slt (Host.remsi v (broadcastInDim S1x4096 ![] bcast_S_S1x4096 four)) (broadcastInDim S1x4096 ![] bcast_S_S1x4096 (constantI S_ 32 0#32)))
        (broadcastInDim S1x4096 ![] bcast_S_S1x4096 (cmpi .slt four (constantI S_ 32 0#32))))
      (cmpi .ne (Host.remsi v (broadcastInDim S1x4096 ![] bcast_S_S1x4096 four)) (broadcastInDim S1x4096 ![] bcast_S_S1x4096 (constantI S_ 32 0#32))))
    (addi (Host.remsi v (broadcastInDim S1x4096 ![] bcast_S_S1x4096 four)) (broadcastInDim S1x4096 ![] bcast_S_S1x4096 four))
    (Host.remsi v (broadcastInDim S1x4096 ![] bcast_S_S1x4096 four))

/-- and queries'. -/
def qMod (v : IVec S128x1 32) : IVec S128x1 32 :=
  select (andi (cmpi .ne (cmpi .slt (Host.remsi v (broadcastInDim S128x1 ![] bcast_S_S128x1 four)) (broadcastInDim S128x1 ![] bcast_S_S128x1 (constantI S_ 32 0#32)))
        (broadcastInDim S128x1 ![] bcast_S_S128x1 (cmpi .slt four (constantI S_ 32 0#32))))
      (cmpi .ne (Host.remsi v (broadcastInDim S128x1 ![] bcast_S_S128x1 four)) (broadcastInDim S128x1 ![] bcast_S_S128x1 (constantI S_ 32 0#32))))
    (addi (Host.remsi v (broadcastInDim S128x1 ![] bcast_S_S128x1 four)) (broadcastInDim S128x1 ![] bcast_S_S128x1 four))
    (Host.remsi v (broadcastInDim S128x1 ![] bcast_S_S128x1 four))

/-- The mask from columns and rows of block numbers. -/
def maskOf (q : IVec S128x1 32) (k : IVec S1x4096 32) : IVec S128x4096 1 :=
  ori (cmpi .eq (broadcastInDim S128x4096 ![0, 1] bcast_S128x1_S128x4096_0_1 q) (broadcastInDim S128x4096 ![0, 1] bcast_S1x4096_S128x4096_0_1 k))
    (cmpi .eq (broadcastInDim S128x4096 ![0, 1] bcast_S1x4096_S128x4096_0_1 (kMod k)) (broadcastInDim S128x4096 ![0, 1] bcast_S128x1_S128x4096_0_1 (qMod q)))

/-- The block pattern's mask. -/
def keepM : IVec S128x4096 1 :=
  maskOf (broadcastInDim S128x1 ![0] bcast_S128_S128x1_0 qBlk) (broadcastInDim S1x4096 ![1] bcast_S4096_S1x4096_1 kBlk)

/-- Which rows have a kept key. -/
def rowM : IVec S128 1 := Host.reduce IntOp.ori keepM (constantI S_ 1 0#1) reducesTo_S128x4096_S128_d1 h_S_

/-- The same, one column per row. -/
def rowM4 : IVec S1x1x128x1 1 := broadcastInDim S1x1x128x1 ![2] bcast_S128_S1x1x128x1_2 rowM

/-- The projected queries, by head. -/
def qR (x : FVec F S2x128x512 .f32) (wq : FVec F S512x256 .f32) : FVec F S2x128x4x64 .f32 :=
  shapeCast S2x128x4x64 (Host.dotGeneral dot_S2x128x512_S512x256_S2x128x256_2_0_01_1_n_n none x wq) shapeCasts_S2x128x256_S2x128x4x64

/-- The masked scores. -/
def scR (q : FVec F S2x128x4x64 .f32) (k : FVec F S2x4096x4x64 .f32) : FVec F S2x4x128x4096 .f32 :=
  select (broadcastInDim S2x4x128x4096 ![0, 1, 2, 3] bcast_S1x1x128x4096_S2x4x128x4096_0_1_2_3
      (broadcastInDim S1x1x128x4096 ![2, 3] bcast_S128x4096_S1x1x128x4096_2_3 keepM))
    (mulf (Host.dotGeneral dot_S2x128x4x64_S2x4096x4x64_S2x4x128x4096_3_3_1_1_02_02 none q k)
      (broadcastInDim S2x4x128x4096 ![] bcast_S_S2x4x128x4096 (constant S_ .f32 0x3E000000#32)))
    (broadcastInDim S2x4x128x4096 ![] bcast_S_S2x4x128x4096 (id (constant S_ .f32 0xCE6E6B28#32)))

/-- The scores' row maxima, -/
def mxR (s : FVec F S2x4x128x4096 .f32) : FVec F S2x4x128 .f32 :=
  Host.reduce FloatOps.maximumf s (constant S_ .f32 0xFF800000#32) reducesTo_S2x4x128x4096_S2x4x128_d3 h_S_

/-- the exponentials of the scores less their row's maximum, -/
def exR (s : FVec F S2x4x128x4096 .f32) : FVec F S2x4x128x4096 .f32 :=
  Host.exp (subf s (broadcastInDim S2x4x128x4096 ![0, 1, 2, 3] bcast_S2x4x128x1_S2x4x128x4096_0_1_2_3
    (broadcastInDim S2x4x128x1 ![0, 1, 2] bcast_S2x4x128_S2x4x128x1_0_1_2 (mxR s))))

/-- their row sums, one where no key is kept, -/
def smR (e : FVec F S2x4x128x4096 .f32) : FVec F S2x4x128x1 .f32 :=
  select (broadcastInDim S2x4x128x1 ![0, 1, 2, 3] bcast_S1x1x128x1_S2x4x128x1_0_1_2_3 rowM4)
    (broadcastInDim S2x4x128x1 ![0, 1, 2] bcast_S2x4x128_S2x4x128x1_0_1_2
      (Host.reduceAdd e (constant S_ .f32 0x00000000#32) reducesTo_S2x4x128x4096_S2x4x128_d3 h_S_))
    (broadcastInDim S2x4x128x1 ![] bcast_S_S2x4x128x1 (id (constant S_ .f32 0x3F800000#32)))

/-- and the weights, zero where no key is kept. -/
def wtR (e : FVec F S2x4x128x4096 .f32) : FVec F S2x4x128x4096 .f32 :=
  select (broadcastInDim S2x4x128x4096 ![0, 1, 2, 3] bcast_S1x1x128x1_S2x4x128x4096_0_1_2_3 rowM4)
    (Host.divf e (broadcastInDim S2x4x128x4096 ![0, 1, 2, 3] bcast_S2x4x128x1_S2x4x128x4096_0_1_2_3 (smR e)))
    (broadcastInDim S2x4x128x4096 ![] bcast_S_S2x4x128x4096 (id (constant S_ .f32 0x00000000#32)))

/-- The context, heads side by side. -/
def cxR (v : FVec F S2x4096x4x64 .f32) (w : FVec F S2x4x128x4096 .f32) : FVec F S2x128x256 .f32 :=
  shapeCast S2x128x256 (transpose S2x128x4x64 [0, 3, 1, 2] (Host.dotGeneral dot_S2x4096x4x64_S2x4x128x4096_S2x4x64x128_1_3_3_2_02_01 none v w)
    transposes_S2x4x64x128_S2x128x4x64_0_3_1_2) shapeCasts_S2x128x4x64_S2x128x256

/-- The reference's result. -/
def outR (x : FVec F S2x128x512 .f32) (wq : FVec F S512x256 .f32) (k v : FVec F S2x4096x4x64 .f32) (wo : FVec F S256x512 .f32) : FVec F S2x128x512 .f32 :=
  Host.dotGeneral dot_S2x128x256_S256x512_S2x128x512_2_0_01_1_n_n none (cxR v (wtR (exR (scR (qR x wq) k)))) wo

set_option maxRecDepth 20000 in
set_option maxHeartbeats 4000000 in
/-- The reference's run leaves it. -/
theorem res_eq (m : (ℓ : Loc nD τ sig) → Buf (Elt F) ℓ) (c : Dev nD) :
    Cert.ReferenceIdeal.Value.res_main_v39 m c
      = outR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Value
-- ==== Proof.Value.Mask.lean ====
/-
# The block pattern's mask

Query `i` attends to key `n` when they are in the same block of 64, or the number of the key's block is the query's
modulo four (`keep`). The kernel's mask on device `c` is this of keys `128 c` to `128 c + 127`, the reference's of all
keys; every query keeps some key.
-/
module

public import proofs.«01_k».proof.Proof.Contents
public import proofs.«01_k».proof.Proof.Value.Terms
public import Idealize.ShloMosaic.Lib.IdealHost

@[expose] public section

noncomputable section

namespace Cert.Value

open Idealize.ShloMosaic

/-- Query `i` attends to key `n`. -/
def keep (i n : ℕ) : Bool := decide (n / 64 = i / 64) || decide (n / 64 % 4 = i / 64)

section Kernel
open Cert.KernelIdeal Cert.KernelIdeal.Gen Cert.KernelIdealProof

/-- The kernel's block number of a query, -/
theorem pay4_val (i j : Fin 128) :
    k0_pay4 (iota .tc S128x128 32 [0] iota_S128x128_d0_w32) 64#32 k0_pay2 k0_pay3 (ix2 (n0 := 128) (n1 := 128) i j) = BitVec.ofNat 32 (i.val / 64) := by
  have h : ∀ i : Fin 128, k0_pay4 (iota .tc S128x128 32 [0] iota_S128x128_d0_w32) 64#32 k0_pay2 k0_pay3 (ix2 (n0 := 128) (n1 := 128) i 0) = BitVec.ofNat 32 (i.val / 64) := by
    decide +kernel
  exact (show _ = k0_pay4 (iota .tc S128x128 32 [0] iota_S128x128_d0_w32) 64#32 k0_pay2 k0_pay3 (ix2 (n0 := 128) (n1 := 128) i 0) from rfl).trans (h i)

/-- and of a key within the device's. -/
theorem pay5_val (i j : Fin 128) : k0_pay5 (ix2 (n0 := 128) (n1 := 128) i j) = BitVec.ofNat 32 (j.val / 64) := by
  have h : ∀ j : Fin 128, k0_pay5 (ix2 (n0 := 128) (n1 := 128) 0 j) = BitVec.ofNat 32 (j.val / 64) := by decide +kernel
  exact (show _ = k0_pay5 (ix2 (n0 := 128) (n1 := 128) 0 j) from rfl).trans (h j)

/-- The kernel's comparison of block numbers, at one place. -/
theorem pay6_val (A B : IVec S128x128 32) (w a b : BitVec 32) (y : S128x128.Idx) (ha : A y = a) (hb : B y = b) :
    k0_pay6 A w B y = k0_pay6 (fun _ => a) w (fun _ => b) (ix2 (n0 := 128) (n1 := 128) 0 0) := by
  subst ha hb
  rfl

/-- It finds the key's block the query's or, modulo four, its number. -/
theorem pay6_keep : ∀ (c : Dev nD) (a b : Fin 2),
    k0_pay6 (fun _ => BitVec.ofNat 32 a.val) (Scalar.muli 2#32 (Scalar.remsi (Scalar.divsi (Dev.word c) 1#32) 32#32)) (fun _ => BitVec.ofNat 32 b.val)
        (ix2 (n0 := 128) (n1 := 128) 0 0)
      = BitVec.ofBool (decide (2 * c.val + b.val = a.val) || decide ((2 * c.val + b.val) % 4 = a.val)) := by
  decide +kernel

/-- The kernel's mask on device `c` is the pattern's over the device's keys. -/
theorem msk_val (c : Dev nD) (i j : Fin 128) : msk c (ix2 i j) = BitVec.ofBool (keep i.val (128 * c.val + j.val)) := by
  have hi : i.val / 64 < 2 := by omega
  have hj : j.val / 64 < 2 := by omega
  refine (pay6_val _ _ _ _ _ _ (pay4_val i j) (pay5_val i j)).trans ((pay6_keep c ⟨_, hi⟩ ⟨_, hj⟩).trans ?_)
  have e : (128 * c.val + j.val) / 64 = 2 * c.val + j.val / 64 := by omega
  rw [keep, e]

end Kernel

section Reference
open Cert.ReferenceIdeal Cert.ReferenceIdeal.Gen

/-- The reference's block number of a query, -/
theorem qBlk_val : ∀ i : Fin 128, qBlk (ix1 (n0 := 128) i) = BitVec.ofNat 32 (i.val / 64) := by decide +kernel
/-- and of a key. -/
theorem kBlk_val : ∀ i : Fin 4096, kBlk (ix1 (n0 := 4096) i) = BitVec.ofNat 32 (i.val / 64) := by decide +kernel

/-- The reference's comparison of block numbers, at one place. -/
theorem maskOf_val (q : IVec S128x1 32) (k : IVec S1x4096 32) (i : Fin 128) (n : Fin 4096) (a b : BitVec 32)
    (ha : q (ix2 (n0 := 128) (n1 := 1) i 0) = a) (hb : k (ix2 (n0 := 1) (n1 := 4096) 0 n) = b) :
    maskOf q k (ix2 (n0 := 128) (n1 := 4096) i n) = maskOf (fun _ => a) (fun _ => b) (ix2 (n0 := 128) (n1 := 4096) 0 0) := by
  have hq : broadcastInDim S128x4096 ![0, 1] bcast_S128x1_S128x4096_0_1 q (ix2 (n0 := 128) (n1 := 4096) i n) = a :=
    (broadcastInDim_apply _ _ q _ (ix2 (n0 := 128) (n1 := 1) i 0) fun z => match z with | ⟨0, _⟩ => rfl | ⟨1, _⟩ => rfl).trans ha
  have hk : broadcastInDim S128x4096 ![0, 1] bcast_S1x4096_S128x4096_0_1 k (ix2 (n0 := 128) (n1 := 4096) i n) = b :=
    (broadcastInDim_apply _ _ k _ (ix2 (n0 := 1) (n1 := 4096) 0 n) fun z => match z with | ⟨0, _⟩ => rfl | ⟨1, _⟩ => rfl).trans hb
  have hqm : broadcastInDim S128x4096 ![0, 1] bcast_S128x1_S128x4096_0_1 (qMod q) (ix2 (n0 := 128) (n1 := 4096) i n)
      = qMod (fun _ => a) (ix2 (n0 := 128) (n1 := 1) 0 0) :=
    (broadcastInDim_apply _ _ (qMod q) _ (ix2 (n0 := 128) (n1 := 1) i 0) fun z => match z with | ⟨0, _⟩ => rfl | ⟨1, _⟩ => rfl).trans (by subst ha; rfl)
  have hkm : broadcastInDim S128x4096 ![0, 1] bcast_S1x4096_S128x4096_0_1 (kMod k) (ix2 (n0 := 128) (n1 := 4096) i n)
      = kMod (fun _ => b) (ix2 (n0 := 1) (n1 := 4096) 0 0) :=
    (broadcastInDim_apply _ _ (kMod k) _ (ix2 (n0 := 1) (n1 := 4096) 0 n) fun z => match z with | ⟨0, _⟩ => rfl | ⟨1, _⟩ => rfl).trans (by subst hb; rfl)
  show IntOp.ori (IntOp.cmpi .eq (broadcastInDim S128x4096 ![0, 1] bcast_S128x1_S128x4096_0_1 q (ix2 (n0 := 128) (n1 := 4096) i n))
      (broadcastInDim S128x4096 ![0, 1] bcast_S1x4096_S128x4096_0_1 k (ix2 (n0 := 128) (n1 := 4096) i n)))
    (IntOp.cmpi .eq (broadcastInDim S128x4096 ![0, 1] bcast_S1x4096_S128x4096_0_1 (kMod k) (ix2 (n0 := 128) (n1 := 4096) i n))
      (broadcastInDim S128x4096 ![0, 1] bcast_S128x1_S128x4096_0_1 (qMod q) (ix2 (n0 := 128) (n1 := 4096) i n))) = _
  rw [hq, hk, hqm, hkm]
  rfl

/-- It finds the key's block the query's or, modulo four, its number. -/
theorem maskOf_keep : ∀ (a : Fin 2) (b : Fin 64),
    maskOf (fun _ => BitVec.ofNat 32 a.val) (fun _ => BitVec.ofNat 32 b.val) (ix2 (n0 := 128) (n1 := 4096) 0 0)
      = BitVec.ofBool (decide (b.val = a.val) || decide (b.val % 4 = a.val)) := by
  decide +kernel

/-- The reference's mask is the pattern's. -/
theorem keepM_val (i : Fin 128) (n : Fin 4096) : keepM (ix2 i n) = BitVec.ofBool (keep i.val n.val) := by
  have hi : i.val / 64 < 2 := by omega
  have hn : n.val / 64 < 64 := by omega
  refine (maskOf_val _ _ i n _ _ ?_ ?_).trans (maskOf_keep ⟨_, hi⟩ ⟨_, hn⟩)
  · exact qBlk_val i
  · exact kBlk_val n

/-- A disjunction of bits one of which is set. -/
theorem foldl_ori_one {α : Type} (f : α → BitVec 1) (L : List α) (x : α) (hx : x ∈ L) (h : f x = 1#1) (b : BitVec 1) :
    L.foldl (fun r n => IntOp.ori r (f n)) b = 1#1 := by
  have one : ∀ (L : List α), L.foldl (fun r n => IntOp.ori r (f n)) 1#1 = 1#1 := by
    intro L
    induction L with
    | nil => rfl
    | cons a L ih =>
      have e : IntOp.ori 1#1 (f a) = 1#1 := by unfold IntOp.ori; generalize f a = c; revert c; decide
      rw [List.foldl_cons, e, ih]
  induction L generalizing b with
  | nil => exact absurd hx List.not_mem_nil
  | cons a L ih =>
    rw [List.foldl_cons]
    rcases List.mem_cons.mp hx with rfl | hx
    · have e : IntOp.ori b (f x) = 1#1 := by rw [h]; unfold IntOp.ori; revert b; decide
      rw [e, one]
    · exact ih hx _

/-- Every query keeps a key. -/
theorem rowM_val (i : Fin 128) : rowM (ix1 i) = 1#1 := by
  let n : Fin 4096 := ⟨i.val, by omega⟩
  refine foldl_ori_one (fun n => keepM (S128x4096.rowMajor.symm n)) _ (S128x4096.rowMajor (ix2 i n)) ?_ ?_ _
  · rw [List.mem_filter]
    refine ⟨List.mem_finRange _, ?_⟩
    rw [Equiv.symm_apply_apply]
    refine decide_eq_true ?_
    funext a
    match a with
    | ⟨0, _⟩ => rfl
  · show keepM (S128x4096.rowMajor.symm (S128x4096.rowMajor (ix2 i n))) = _
    rw [Equiv.symm_apply_apply, keepM_val]
    simp [keep, n]

end Reference

end Cert.Value
-- ==== Proof.Value.Spec.lean ====
/-
# The attention as a formula

The projected queries (`qv`), the masked scores (`sv`) and the projected context (`outS`), index by index, over the
whole arrays; and contractions over one axis read as sums.
-/
module

public import proofs.«01_k».proof.Proof.Value.Softmax
public import proofs.«01_k».proof.Proof.Value.Mask
public import Idealize.ShloMosaic.Lib.MatmulPlain

@[expose] public section

noncomputable section

namespace Cert.Value

open Idealize.ShloMosaic
open Idealize.ShloMosaic.ValueIdx hiding ix0 ix1 ix2 ix3 ix4 ix5 ix6
open scoped BigOperators

/-- The queries and the result, -/
abbrev AX := (⟨3, ![2, 128, 512]⟩ : Shape).Idx → EReal
/-- the query weights, -/
abbrev AQ := (⟨2, ![512, 256]⟩ : Shape).Idx → EReal
/-- the keys and the values, -/
abbrev AK := (⟨4, ![2, 4096, 4, 64]⟩ : Shape).Idx → EReal
/-- and the projection weights. -/
abbrev AO := (⟨2, ![256, 512]⟩ : Shape).Idx → EReal

/-- The column of component `d` of head `h`. -/
def col (h : Fin 4) (d : Fin 64) : Fin 256 := ⟨64 * h.val + d.val, by omega⟩

/-- Component `d` of head `h` of projected query (`b`, `i`). -/
def qv (x : AX) (wq : AQ) (b : Fin 2) (i : Fin 128) (f : Fin 256) : EReal := ∑ e : Fin 512, x (ix3 b i e) * wq (ix2 e f)

/-- The masked score of query `i` and key `n`. -/
def sv (x : AX) (wq : AQ) (k : AK) (b : Fin 2) (h : Fin 4) (i : Fin 128) (n : Fin 4096) : EReal :=
  if keep i.val n.val then (∑ d : Fin 64, qv x wq b i (col h d) * k (ix4 b n h d)) * Ideal.ofBits .f32 0x3E000000#32
  else Ideal.ofBits .f32 0xCE6E6B28#32

/-- The result, from real scores: each head's weighted average of the values, projected. -/
def outS (σ : Fin 2 → Fin 4 → Fin 128 → Fin 4096 → ℝ) (v : AK) (wo : AO) (b : Fin 2) (i : Fin 128) (n : Fin 512) : EReal :=
  ∑ h : Fin 4, ∑ d : Fin 64, avg (σ b h i) (fun j => v (ix4 b j h d)) Finset.univ * wo (ix2 (col h d) n)

/-- Finite queries, query weights and keys have real scores. -/
theorem sv_real (x : AX) (wq : AQ) (k : AK) (hx : ∀ z, IsReal (x z)) (hq : ∀ z, IsReal (wq z)) (hk : ∀ z, IsReal (k z)) :
    ∃ σ : Fin 2 → Fin 4 → Fin 128 → Fin 4096 → ℝ, ∀ b h i n, sv x wq k b h i n = σ b h i n := by
  have h : ∀ b h i n, IsReal (sv x wq k b h i n) := by
    intro b h i n
    unfold sv
    split
    · exact (IsReal.sum _ _ fun d => (IsReal.sum _ _ fun e => (hx _).mul (hq _)).mul (hk _)).mul isReal_eighth
    · exact isReal_masked
  choose σ hσ using h
  exact ⟨σ, hσ⟩

/-! ### Contractions over one axis -/

/-- A contraction over one axis of extent `n`, at an index: the sum over that axis of the products of the operands where
`el`, `er` say. -/
theorem sum_contr {sl sr so : Shape} (D : DotDims sl sr so) (n : ℕ) (hr : D.contr.rank = 1) (hs : D.contr.size ⟨0, by omega⟩ = n)
    (l : sl.Idx → EReal) (r : sr.Idx → EReal) (y : so.Idx) (el : Fin n → sl.Idx) (er : Fin n → sr.Idx)
    (hl : ∀ q : D.contr.Idx, ∀ i : Fin n, (q ⟨0, by omega⟩).val = i.val → D.lhsIdx y q = el i)
    (hR : ∀ q : D.contr.Idx, ∀ i : Fin n, (q ⟨0, by omega⟩).val = i.val → D.rhsIdx y q = er i) :
    ∑ k : D.contr.Idx, l (D.lhsIdx y k) * r (D.rhsIdx y k) = ∑ i : Fin n, l (el i) * r (er i) := by
  rw [← Equiv.sum_comp (contrEquiv1 D n hr hs).symm]
  refine Finset.sum_congr rfl fun i _ => ?_
  have hi := contrEquiv1_symm_val D n hr hs i
  rw [hl _ i hi, hR _ i hi]

/-- The bit of a decision, as a selection. -/
theorem select_ofBool {α : Type} (c : Bool) (a b : α) : Scalar.select (BitVec.ofBool c) a b = if c then a else b := by
  cases c <;> rfl

end Cert.Value
-- ==== Proof.Value.Kernel.lean ====
/-
# The kernel's result is the formula

Each device's own state is the softmax's state over its 128 keys, so after five rounds every device has that over all
4096, and its projection is the formula.
-/
module

public import proofs.«01_k».proof.Proof.Value.Spec

@[expose] public section

noncomputable section

namespace Cert.Value

open Cert.KernelIdeal Cert.KernelIdeal.Gen Cert.KernelIdealProof Idealize.ShloMosaic
open Idealize.ShloMosaic.ValueIdx hiding ix0 ix1 ix2 ix3 ix4 ix5 ix6
open scoped BigOperators

/-- Key `j` of device `c`'s block. -/
def gk (c : Dev nD) (j : Fin 128) : Fin 4096 := ⟨128 * c.val + j.val, by have := c.isLt; simp only [nD] at this; omega⟩

/-! ### One block of keys -/

/-- A projected query. -/
theorem qP_val (X : Inp Ideal) (b : Fin 2) (i : Fin 128) (f : Fin 256) :
    qP X b (ix2 (n0 := 128) (n1 := 256) i f) = qv X.x X.wq b i f := by
  unfold qP k0_pay7 k0_pay1
  simp only [matmul]
  rw [Ideal.matmul_constant_zero_apply]
  refine (sum_contr dot_S128x512_S512x256_S128x256_1_0_0_1_n_n 512 rfl rfl _ _ _ (fun e => ix2 (n0 := 128) (n1 := 512) i e) (fun e => ix2 (n0 := 512) (n1 := 256) e f)
    (fun q e h => funext fun a => Fin.ext (match a with | ⟨0, _⟩ => rfl | ⟨1, _⟩ => h)) (fun q e h => funext fun a => Fin.ext (match a with | ⟨0, _⟩ => h | ⟨1, _⟩ => rfl))).trans ?_
  refine Finset.sum_congr rfl fun e _ => ?_
  congr 1
  · refine (shapeCast_1ab_ab_apply _ _ i e).trans ?_
    refine congrArg X.x (funext fun a => Fin.ext ?_)
    match a with
    | ⟨0, _⟩ => exact (by simp : b.val + 1 * 0 = b.val)
    | ⟨1, _⟩ => exact (by simp : 0 + 1 * i.val = i.val)
    | ⟨2, _⟩ => exact (by simp : 0 + 1 * e.val = e.val)
  · refine (shapeCast_apply _ _ _ (ix2 (n0 := 512) (n1 := 256) e f) rfl).trans ?_
    refine congrArg X.wq (funext fun a => Fin.ext ?_)
    match a with
    | ⟨0, _⟩ => exact (by simp : 0 + 1 * e.val = e.val)
    | ⟨1, _⟩ => exact (by simp : 0 + 1 * f.val = f.val)

/-- A block of one head read out of an array of keys or values, as a matrix. -/
theorem cast_kv (g : Vec Ideal S1x128x1x64 .f32) (j : Fin 128) (d : Fin 64) :
    shapeCast S128x64 g shapeCasts_S1x128x1x64_S128x64 (ix2 (n0 := 128) (n1 := 64) j d) = g (ix4 (n0 := 1) (n1 := 128) (n2 := 1) (n3 := 64) 0 j 0 d) := by
  refine shapeCast_apply _ _ _ _ ?_
  rw [Shape.rowMajor_val_four, Shape.rowMajor_val_two]
  show ((0 * 128 + j.val) * 1 + 0) * 64 + d.val = j.val * 64 + d.val
  omega

/-- A key, -/
theorem kB_val (X : Inp Ideal) (b : Fin 2) (h : Fin 4) (j : Fin 128) (d : Fin 64) :
    kB X b h (ix2 (n0 := 128) (n1 := 64) j d) = X.k (ix4 (n0 := 2) (n1 := 128) (n2 := 4) (n3 := 64) b j h d) := by
  refine (cast_kv _ j d).trans (congrArg X.k (funext fun a => Fin.ext ?_))
  match a with
  | ⟨0, _⟩ => exact (by simp : b.val + 1 * 0 = b.val)
  | ⟨1, _⟩ => exact (by simp : 0 + 1 * j.val = j.val)
  | ⟨2, _⟩ => exact (by simp : h.val + 1 * 0 = h.val)
  | ⟨3, _⟩ => exact (by simp : 0 + 1 * d.val = d.val)

/-- and a value. -/
theorem vB_val (X : Inp Ideal) (b : Fin 2) (h : Fin 4) (j : Fin 128) (d : Fin 64) :
    vB X b h (ix2 (n0 := 128) (n1 := 64) j d) = X.v (ix4 (n0 := 2) (n1 := 128) (n2 := 4) (n3 := 64) b j h d) := by
  refine (cast_kv _ j d).trans (congrArg X.v (funext fun a => Fin.ext ?_))
  match a with
  | ⟨0, _⟩ => exact (by simp : b.val + 1 * 0 = b.val)
  | ⟨1, _⟩ => exact (by simp : 0 + 1 * j.val = j.val)
  | ⟨2, _⟩ => exact (by simp : h.val + 1 * 0 = h.val)
  | ⟨3, _⟩ => exact (by simp : 0 + 1 * d.val = d.val)

/-- A device's masked scores are the formula's at its keys. -/
theorem scr_val (X : Inp Ideal) (K : AK) (c : Dev nD)
    (hk : ∀ b j h d, X.k (ix4 (n0 := 2) (n1 := 128) (n2 := 4) (n3 := 64) b j h d) = K (ix4 b (gk c j) h d))
    (b : Fin 2) (h : Fin 4) (i j : Fin 128) :
    scr X c b h (ix2 (n0 := 128) (n1 := 128) i j) = sv X.x X.wq K b h i (gk c j) := by
  have hm : FloatOps.matmul dot_S128x64_S128x64_S128x128_1_1_0_0_n_n none (extractStridedSlice S128x64 ![0, 64 * h.val] (qP X b) (slices_q h)) (kB X b h)
      (constant S128x128 .f32 0x00000000#32) (ix2 (n0 := 128) (n1 := 128) i j) = ∑ d : Fin 64, qv X.x X.wq b i (col h d) * K (ix4 b (gk c j) h d) := by
    rw [Ideal.matmul_constant_zero_apply]
    refine (sum_contr dot_S128x64_S128x64_S128x128_1_1_0_0_n_n 64 rfl rfl _ _ _ (fun e => ix2 (n0 := 128) (n1 := 64) i e) (fun e => ix2 (n0 := 128) (n1 := 64) j e)
      (fun q e h => funext fun a => Fin.ext (match a with | ⟨0, _⟩ => rfl | ⟨1, _⟩ => h)) (fun q e h => funext fun a => Fin.ext (match a with | ⟨0, _⟩ => rfl | ⟨1, _⟩ => h))).trans ?_
    refine Finset.sum_congr rfl fun d _ => ?_
    congr 1
    · exact (slice2_axis1_apply (64 * h.val) (qP X b) (slices_q h) i d (col h d) rfl).trans (qP_val X b i _)
    · exact (kB_val X b h j d).trans (hk b j h d)
  show Scalar.select (msk c (ix2 i j)) (FloatOps.matmul dot_S128x64_S128x64_S128x128_1_1_0_0_n_n none (extractStridedSlice S128x64 ![0, 64 * h.val] (qP X b) (slices_q h)) (kB X b h)
      (constant S128x128 .f32 0x00000000#32) (ix2 (n0 := 128) (n1 := 128) i j) * Ideal.ofBits .f32 0x3E000000#32) (Ideal.ofBits .f32 0xCE6E6B28#32) = _
  rw [hm, msk_val, select_ofBool]
  rfl

/-! ### A device's own state -/

variable (X : Dev nD → Inp Ideal) (x : AX) (wq : AQ) (K V : AK) (wo : AO) (σ : Fin 2 → Fin 4 → Fin 128 → Fin 4096 → ℝ)

/-- What the devices hold of the whole arrays, and that the scores are the reals `σ`. -/
structure Held : Prop where
  hx : ∀ c, (X c).x = x
  hwq : ∀ c, (X c).wq = wq
  hwo : ∀ c, (X c).wo = wo
  hk : ∀ c b j h d, (X c).k (ix4 (n0 := 2) (n1 := 128) (n2 := 4) (n3 := 64) b j h d) = K (ix4 b (gk c j) h d)
  hv : ∀ c b j h d, (X c).v (ix4 (n0 := 2) (n1 := 128) (n2 := 4) (n3 := 64) b j h d) = V (ix4 b (gk c j) h d)
  hσ : ∀ b h i n, sv x wq K b h i n = σ b h i n

variable {X x wq K V wo σ} (H : Held X x wq K V wo σ)

include H in
/-- A device's masked scores are reals. -/
theorem scr_real (c : Dev nD) (b : Fin 2) (h : Fin 4) (i j : Fin 128) :
    scr (X c) c b h (ix2 (n0 := 128) (n1 := 128) i j) = σ b h i (gk c j) := by
  rw [scr_val (X c) K c (H.hk c), H.hx, H.hwq, H.hσ]

include H in
/-- Their row maxima are reals. -/
theorem bM_real (c : Dev nD) (b : Fin 2) (h : Fin 4) (i : Fin 128) : IsReal (bM (X c) c b h (ix1 (n0 := 128) i)) := by
  have e0 : bM (X c) c b h (ix1 (n0 := 128) i) = _ :=
    Ideal.multiReduction_maximumf_single (scr (X c) c b h) 0xFF800000#32 reduces_S128x128_S128 (.inl rfl) rfl (ix1 (n0 := 128) i)
  rw [e0]
  have e : (FloatOps.ofBits .f32 0xFF800000#32 : Ideal .f32) = ⊥ := ofBits_neg_inf
  rw [e]
  refine isReal_fold_max _ ⟨⟨0, by decide⟩, Finset.mem_univ _⟩ _ fun j => ?_
  refine ⟨σ b h i (gk c j), ?_⟩
  refine Eq.trans (congrArg (scr (X c) c b h) (funext fun a => Fin.ext ?_)) (scr_real H c b h i j)
  match a with
  | ⟨0, _⟩ => rfl
  | ⟨1, _⟩ => rfl

include H in
/-- A weight, relative to the row's maximum. -/
theorem bE_val (c : Dev nD) (b : Fin 2) (h : Fin 4) (i j : Fin 128) (μ : ℝ) (hμ : bM (X c) c b h (ix1 (n0 := 128) i) = μ) :
    bE (X c) c b h (ix2 (n0 := 128) (n1 := 128) i j) = ((Real.exp (σ b h i (gk c j) - μ) : ℝ) : EReal) := by
  have hb : broadcastTo S128x128 (shapeCast S128x1 (bM (X c) c b h) shapeCasts_S128_S128x1) broadcasts_S128x1_S128x128 (ix2 (n0 := 128) (n1 := 128) i j) = μ := by
    refine (broadcastTo_apply _ _ _ (ix2 (n0 := 128) (n1 := 1) i 0) fun a => ?_).trans ((shapeCast_apply _ _ _ (ix1 (n0 := 128) i) ?_).trans hμ)
    · match a with
      | ⟨0, _⟩ => rfl
      | ⟨1, _⟩ => rfl
    · rw [Shape.rowMajor_val_one, Shape.rowMajor_val_two]
      show i.val = i.val * 1 + 0
      omega
  show Ideal.exp (scr (X c) c b h (ix2 (n0 := 128) (n1 := 128) i j) - broadcastTo S128x128 (shapeCast S128x1 (bM (X c) c b h) shapeCasts_S128_S128x1) broadcasts_S128x1_S128x128 (ix2 (n0 := 128) (n1 := 128) i j)) = _
  rw [hb, scr_real H, ← EReal.coe_sub, exp_coe]

/-- The keys device `c` has after `k` rounds. -/
def Ks (k : ℕ) (c : Dev nD) : Finset (Fin 4096) := Finset.univ.filter fun n => n.val / 128 / 2 ^ k = c.val / 2 ^ k

/-- A sum over a device's own keys. -/
theorem sum_own (c : Dev nD) (f : Fin 4096 → EReal) : ∑ n ∈ Ks 0 c, f n = ∑ j : Fin 128, f (gk c j) := by
  refine (Finset.sum_bij (fun j _ => gk c j) (fun j _ => ?_) (fun j _ j' _ e => ?_) (fun n hn => ?_) fun _ _ => rfl).symm
  · simp only [Ks, Finset.mem_filter, Finset.mem_univ, true_and, gk, pow_zero, Nat.div_one]
    omega
  · have := congrArg Fin.val e
    simp only [gk] at this
    exact Fin.ext (by omega)
  · simp only [Ks, Finset.mem_filter, Finset.mem_univ, true_and, pow_zero, Nat.div_one] at hn
    refine ⟨⟨n.val % 128, Nat.mod_lt _ (by decide)⟩, Finset.mem_univ _, Fin.ext ?_⟩
    simp only [gk]
    omega

section Own

attribute [local irreducible] bM bL bA

/-- A device's own row maxima, -/
theorem own_m (Y : Inp Ideal) (c : Dev nD) (r : Fin 8) (i : Fin 128) :
    (own Y c).m (ix3 (n0 := 8) (n1 := 1) (n2 := 128) r 0 i) = bM Y c (rb r) (rh r) (ix1 (n0 := 128) i) := rfl
/-- sums -/
theorem own_l (Y : Inp Ideal) (c : Dev nD) (r : Fin 8) (i : Fin 128) :
    (own Y c).l (ix3 (n0 := 8) (n1 := 1) (n2 := 128) r 0 i) = bL Y c (rb r) (rh r) (ix1 (n0 := 128) i) := rfl
/-- and accumulators. -/
theorem own_a (Y : Inp Ideal) (c : Dev nD) (r : Fin 8) (d : Fin 64) (i : Fin 128) :
    (own Y c).a (ix3 (n0 := 8) (n1 := 64) (n2 := 128) r d i) = bA Y c (rb r) (rh r) (ix2 (n0 := 64) (n1 := 128) d i) := rfl

end Own

include H in
/-- A device's own state is the softmax's over its keys. -/
theorem own_isSt (c : Dev nD) (r : Fin 8) (d : Fin 64) (i : Fin 128) :
    IsSt (σ (rb r) (rh r) i) (fun n => V (ix4 (rb r) n (rh r) d)) (Ks 0 c) ((own (X c) c).m (ix3 (n0 := 8) (n1 := 1) (n2 := 128) r 0 i))
      ((own (X c) c).l (ix3 (n0 := 8) (n1 := 1) (n2 := 128) r 0 i)) ((own (X c) c).a (ix3 (n0 := 8) (n1 := 64) (n2 := 128) r d i)) := by
  obtain ⟨μ, hμ⟩ := bM_real H c (rb r) (rh r) i
  rw [own_m, own_l, own_a]
  refine ⟨μ, hμ, ?_, ?_⟩
  · rw [sum_own]
    refine (Ideal.multiReduction_add_single (bE (X c) c (rb r) (rh r)) 0x00000000#32 reduces_S128x128_S128 (.inl rfl) rfl (ix1 (n0 := 128) i)).trans ?_
    refine Finset.sum_congr rfl fun j _ => ?_
    refine Eq.trans (congrArg (bE (X c) c (rb r) (rh r)) (funext fun a => Fin.ext ?_)) (bE_val H c (rb r) (rh r) i j μ hμ)
    match a with
    | ⟨0, _⟩ => rfl
    | ⟨1, _⟩ => rfl
  · rw [sum_own]
    unfold bA
    simp only [matmul]
    rw [Ideal.matmul_constant_zero_apply]
    refine (sum_contr dot_S128x64_S128x128_S64x128_0_1_1_0_n_n 128 rfl rfl _ _ _ (fun j => ix2 (n0 := 128) (n1 := 64) j d) (fun j => ix2 (n0 := 128) (n1 := 128) i j)
      (fun q e h => funext fun a => Fin.ext (match a with | ⟨0, _⟩ => h | ⟨1, _⟩ => rfl)) (fun q e h => funext fun a => Fin.ext (match a with | ⟨0, _⟩ => rfl | ⟨1, _⟩ => h))).trans ?_
    refine Finset.sum_congr rfl fun j _ => ?_
    rw [bE_val H c (rb r) (rh r) i j μ hμ, vB_val, H.hv, mul_comm]

/-! ### The rounds -/

/-- Which keys are in the union of a round's two sets: -/
theorem mem_next (k : Fin 5) (c : Dev nD) (m : Fin 32) :
    m.val / 2 ^ (k.val + 1) = c.val / 2 ^ (k.val + 1) ↔ m.val / 2 ^ k.val = c.val / 2 ^ k.val ∨ m.val / 2 ^ k.val = (pt k c).val / 2 ^ k.val := by
  revert k c m; decide +kernel

/-- the sets being different. -/
theorem ne_part (k : Fin 5) (c : Dev nD) : c.val / 2 ^ k.val ≠ (pt k c).val / 2 ^ k.val := by revert k c; decide +kernel

/-- A round adds the partner's keys. -/
theorem Ks_succ (k : Fin 5) (c : Dev nD) : Ks (k.val + 1) c = Ks k.val c ∪ Ks k.val (pt k c) := by
  ext n
  simp only [Ks, Finset.mem_union, Finset.mem_filter, Finset.mem_univ, true_and]
  exact mem_next k c ⟨n.val / 128, by omega⟩

/-- They are other keys. -/
theorem Ks_disjoint (k : Fin 5) (c : Dev nD) : Disjoint (Ks k.val c) (Ks k.val (pt k c)) := by
  rw [Finset.disjoint_left]
  intro n h h'
  simp only [Ks, Finset.mem_filter, Finset.mem_univ, true_and] at h h'
  exact ne_part k c (h.symm.trans h')

/-- After five rounds all. -/
theorem Ks_five (c : Dev nD) : Ks 5 c = Finset.univ := by
  ext n
  have hc : c.val < 32 := c.isLt
  simp only [Ks, Finset.mem_filter, Finset.mem_univ, true_and, iff_true]
  omega

/-- A merged state at a place: the maximum, -/
theorem mrg_m (s t : Sm Ideal) (y : S8x1x128.Idx) : (mrg s t).m y = max (s.m y) (t.m y) := rfl
/-- the sum -/
theorem mrg_l (s t : Sm Ideal) (y : S8x1x128.Idx) :
    (mrg s t).l y = s.l y * Ideal.exp (s.m y - max (s.m y) (t.m y)) + t.l y * Ideal.exp (t.m y - max (s.m y) (t.m y)) := rfl
/-- and the accumulator. -/
theorem mrg_a (s t : Sm Ideal) (r : Fin 8) (d : Fin 64) (i : Fin 128) :
    (mrg s t).a (ix3 (n0 := 8) (n1 := 64) (n2 := 128) r d i)
      = s.a (ix3 (n0 := 8) (n1 := 64) (n2 := 128) r d i)
          * Ideal.exp (s.m (ix3 (n0 := 8) (n1 := 1) (n2 := 128) r 0 i) - max (s.m (ix3 (n0 := 8) (n1 := 1) (n2 := 128) r 0 i)) (t.m (ix3 (n0 := 8) (n1 := 1) (n2 := 128) r 0 i)))
        + t.a (ix3 (n0 := 8) (n1 := 64) (n2 := 128) r d i)
          * Ideal.exp (t.m (ix3 (n0 := 8) (n1 := 1) (n2 := 128) r 0 i) - max (s.m (ix3 (n0 := 8) (n1 := 1) (n2 := 128) r 0 i)) (t.m (ix3 (n0 := 8) (n1 := 1) (n2 := 128) r 0 i))) := by
  have hb (f : FVec Ideal S8x1x128 .f32) : broadcastTo S8x64x128 f broadcasts_S8x1x128_S8x64x128 (ix3 (n0 := 8) (n1 := 64) (n2 := 128) r d i)
      = f (ix3 (n0 := 8) (n1 := 1) (n2 := 128) r 0 i) := broadcastTo_apply _ _ _ _ fun a => match a with | ⟨0, _⟩ => rfl | ⟨1, _⟩ => rfl | ⟨2, _⟩ => rfl
  unfold mrg
  simp only [addf_apply, mulf_apply, hb]
  rfl

include H in
/-- The state after `k` rounds is the softmax's over the keys of those rounds. -/
theorem St_isSt (k : ℕ) (hk : k ≤ 5) (c : Dev nD) (r : Fin 8) (d : Fin 64) (i : Fin 128) :
    IsSt (σ (rb r) (rh r) i) (fun n => V (ix4 (rb r) n (rh r) d)) (Ks k c) ((St X k c).m (ix3 (n0 := 8) (n1 := 1) (n2 := 128) r 0 i))
      ((St X k c).l (ix3 (n0 := 8) (n1 := 1) (n2 := 128) r 0 i)) ((St X k c).a (ix3 (n0 := 8) (n1 := 64) (n2 := 128) r d i)) := by
  induction k generalizing c with
  | zero => exact own_isSt H c r d i
  | succ k ih =>
    have e := St_succ X ⟨k, hk⟩ c
    have := (ih (by omega) c).merge (ih (by omega) (pt ⟨k, hk⟩ c)) (Ks_disjoint ⟨k, hk⟩ c)
    rw [← Ks_succ ⟨k, hk⟩ c] at this
    rw [e, mrg_m, mrg_l, mrg_a]
    exact this

/-! ### The projection -/

/-- One head's projected context. -/
theorem hd_val (a : Vec Ideal S1x64x128 .f32) (l : Vec Ideal S1x1x128 .f32) (w : Vec Ideal S64x512 .f32) (i : Fin 128) (n : Fin 512) :
    hd a l w (ix2 (n0 := 128) (n1 := 512) i n)
      = ∑ d : Fin 64, Ideal.div (a (ix3 (n0 := 1) (n1 := 64) (n2 := 128) 0 d i)) (l (ix3 (n0 := 1) (n1 := 1) (n2 := 128) 0 0 i)) * w (ix2 (n0 := 64) (n1 := 512) d n) := by
  unfold hd
  simp only [matmul]
  rw [Ideal.matmul_constant_zero_apply]
  refine (sum_contr dot_S64x128_S64x512_S128x512_0_0_1_1_n_n 64 rfl rfl _ _ _ (fun d => ix2 (n0 := 64) (n1 := 128) d i) (fun d => ix2 (n0 := 64) (n1 := 512) d n)
    (fun q e h => funext fun a => Fin.ext (match a with | ⟨0, _⟩ => h | ⟨1, _⟩ => rfl)) (fun q e h => funext fun a => Fin.ext (match a with | ⟨0, _⟩ => h | ⟨1, _⟩ => rfl))).trans ?_
  refine Finset.sum_congr rfl fun d _ => ?_
  have e1 : shapeCast S64x128 a shapeCasts_S1x64x128_S64x128 (ix2 (n0 := 64) (n1 := 128) d i) = a (ix3 (n0 := 1) (n1 := 64) (n2 := 128) 0 d i) :=
    shapeCast_1ab_ab_apply _ _ d i
  have e2 : broadcastTo S64x128 (shapeCast S1x128 l shapeCasts_S1x1x128_S1x128) broadcasts_S1x128_S64x128 (ix2 (n0 := 64) (n1 := 128) d i)
      = l (ix3 (n0 := 1) (n1 := 1) (n2 := 128) 0 0 i) := (broadcastTo_1b_ab_apply _ _ d i).trans (shapeCast_1ab_ab_apply _ _ 0 i)
  have e3 : shapeCast S64x512 w shapeCasts_S64x512_S64x512 (ix2 (n0 := 64) (n1 := 512) d n) = w (ix2 (n0 := 64) (n1 := 512) d n) :=
    shapeCast_apply _ _ _ _ rfl
  rw [divf_apply, e1, e2, e3]

include H in
/-- One head of a device's result. -/
theorem head_val (c : Dev nD) (b : Fin 2) (h : Fin 4) (i : Fin 128) (n : Fin 512) :
    hd (rowA (St X 5 c) b h) (rowL (St X 5 c) b h) (woB (X c).wo h) (ix2 (n0 := 128) (n1 := 512) i n)
      = ∑ d : Fin 64, avg (σ b h i) (fun j => V (ix4 b j h d)) Finset.univ * wo (ix2 (col h d) n) := by
  rw [hd_val]
  refine Finset.sum_congr rfl fun d _ => ?_
  congr 1
  · have := (St_isSt H 5 le_rfl c ⟨4 * b.val + h.val, by omega⟩ d i).quot (by rw [Ks_five]; exact Finset.univ_nonempty)
    obtain ⟨e1, e2⟩ := rb_rh b h ⟨4 * b.val + h.val, by omega⟩ rfl
    rw [e1, e2, Ks_five] at this
    exact this
  · rw [H.hwo]
    refine congrArg wo (funext fun a => Fin.ext ?_)
    match a with
    | ⟨0, _⟩ => exact (by simp [col] : 64 * h.val + 1 * d.val = (col h d).val)
    | ⟨1, _⟩ => exact (by simp : 0 + 1 * n.val = n.val)

include H in
/-- Every device's result is the formula. -/
theorem kernel_val (c : Dev nD) (b : Fin 2) (i : Fin 128) (n : Fin 512) :
    outV (St X 5 c) (X c).wo (ix3 (n0 := 2) (n1 := 128) (n2 := 512) b i n) = outS σ V wo b i n := by
  show proj (St X 5 c) (X c).wo b (ix2 (n0 := 128) (n1 := 512) i n) = _
  unfold proj outS
  simp only [addf_apply, head_val H, Fin.sum_univ_four]

end Cert.Value
-- ==== Proof.Value.Reference.lean ====
/-
# The reference's result is the formula

Its scores are the formula's, its row maxima reals, its weights the exponentials' shares; so its context is the weighted
average of the values and its result the formula.
-/
module

public import proofs.«01_k».proof.Proof.Value.Spec
public import Idealize.ShloMosaic.Lib.KernelVsHost

@[expose] public section

noncomputable section

namespace Cert.Value

open Cert.ReferenceIdeal Cert.ReferenceIdeal.Gen Idealize.ShloMosaic
open Idealize.ShloMosaic.ValueIdx hiding ix0 ix1 ix2 ix3 ix4 ix5 ix6
open scoped BigOperators

variable {x : AX} {wq : AQ} {k v : AK} {wo : AO} {σ : Fin 2 → Fin 4 → Fin 128 → Fin 4096 → ℝ}

/-- A projected query. -/
theorem qR_val (b : Fin 2) (i : Fin 128) (h : Fin 4) (d : Fin 64) :
    qR (F := Ideal) x wq (ix4 (n0 := 2) (n1 := 128) (n2 := 4) (n3 := 64) b i h d) = qv x wq b i (col h d) := by
  refine (shapeCast_apply _ _ _ (ix3 (n0 := 2) (n1 := 128) (n2 := 256) b i (col h d)) ?_).trans ?_
  · rw [Shape.rowMajor_val_four, Shape.rowMajor_val_three]
    show (b.val * 128 + i.val) * 256 + (64 * h.val + d.val) = ((b.val * 128 + i.val) * 4 + h.val) * 64 + d.val
    omega
  · simp only [Host.dotGeneral]
    rw [Ideal.dotGeneral_apply]
    exact sum_contr dot_S2x128x512_S512x256_S2x128x256_2_0_01_1_n_n 512 rfl rfl _ _ _ (fun e => ix3 (n0 := 2) (n1 := 128) (n2 := 512) b i e)
      (fun e => ix2 (n0 := 512) (n1 := 256) e (col h d))
      (fun q e h => funext fun a => Fin.ext (match a with | ⟨0, _⟩ => rfl | ⟨1, _⟩ => rfl | ⟨2, _⟩ => h))
      (fun q e h => funext fun a => Fin.ext (match a with | ⟨0, _⟩ => h | ⟨1, _⟩ => rfl))

/-- The mask, over batch elements and heads. -/
theorem keep4_val (b : Fin 2) (h : Fin 4) (i : Fin 128) (n : Fin 4096) :
    broadcastInDim S2x4x128x4096 ![0, 1, 2, 3] bcast_S1x1x128x4096_S2x4x128x4096_0_1_2_3
      (broadcastInDim S1x1x128x4096 ![2, 3] bcast_S128x4096_S1x1x128x4096_2_3 keepM) (ix4 (n0 := 2) (n1 := 4) (n2 := 128) (n3 := 4096) b h i n)
      = BitVec.ofBool (keep i.val n.val) :=
  (broadcastInDim_apply _ _ _ _ (ix4 (n0 := 1) (n1 := 1) (n2 := 128) (n3 := 4096) 0 0 i n) fun a =>
      match a with | ⟨0, _⟩ => rfl | ⟨1, _⟩ => rfl | ⟨2, _⟩ => rfl | ⟨3, _⟩ => rfl).trans
    ((broadcastInDim_apply _ _ _ _ (ix2 (n0 := 128) (n1 := 4096) i n) fun a => match a with | ⟨0, _⟩ => rfl | ⟨1, _⟩ => rfl).trans (keepM_val i n))

/-- The reference's masked scores are the formula's. -/
theorem scR_val (b : Fin 2) (h : Fin 4) (i : Fin 128) (n : Fin 4096) :
    scR (F := Ideal) (qR x wq) k (ix4 (n0 := 2) (n1 := 4) (n2 := 128) (n3 := 4096) b h i n) = sv x wq k b h i n := by
  have hm : Host.dotGeneral (φ₂ := .f32) dot_S2x128x4x64_S2x4096x4x64_S2x4x128x4096_3_3_1_1_02_02 none (qR (F := Ideal) x wq) (k : FVec Ideal S2x4096x4x64 .f32)
      (ix4 (n0 := 2) (n1 := 4) (n2 := 128) (n3 := 4096) b h i n) = ∑ d : Fin 64, qv x wq b i (col h d) * k (ix4 b n h d) := by
    simp only [Host.dotGeneral]
    rw [Ideal.dotGeneral_apply]
    refine (sum_contr dot_S2x128x4x64_S2x4096x4x64_S2x4x128x4096_3_3_1_1_02_02 64 rfl rfl _ _ _ (fun d => ix4 (n0 := 2) (n1 := 128) (n2 := 4) (n3 := 64) b i h d)
      (fun d => ix4 (n0 := 2) (n1 := 4096) (n2 := 4) (n3 := 64) b n h d)
      (fun q e h => funext fun a => Fin.ext (match a with | ⟨0, _⟩ => rfl | ⟨1, _⟩ => rfl | ⟨2, _⟩ => rfl | ⟨3, _⟩ => h))
      (fun q e h => funext fun a => Fin.ext (match a with | ⟨0, _⟩ => rfl | ⟨1, _⟩ => rfl | ⟨2, _⟩ => rfl | ⟨3, _⟩ => h))).trans ?_
    exact Finset.sum_congr rfl fun d _ => by rw [qR_val]
  unfold scR
  rw [select_apply, keep4_val, select_ofBool, mulf_apply, hm, broadcastInDim_scalar_apply, broadcastInDim_scalar_apply]
  rfl

/-- A row's maximum, over its keys. -/
theorem mx4_val (f : FVec Ideal S2x4x128 .f32) (b : Fin 2) (h : Fin 4) (i : Fin 128) (n : Fin 4096) :
    broadcastInDim S2x4x128x4096 ![0, 1, 2, 3] bcast_S2x4x128x1_S2x4x128x4096_0_1_2_3
      (broadcastInDim S2x4x128x1 ![0, 1, 2] bcast_S2x4x128_S2x4x128x1_0_1_2 f) (ix4 (n0 := 2) (n1 := 4) (n2 := 128) (n3 := 4096) b h i n)
      = f (ix3 (n0 := 2) (n1 := 4) (n2 := 128) b h i) :=
  (broadcastInDim_apply _ _ _ _ (ix4 (n0 := 2) (n1 := 4) (n2 := 128) (n3 := 1) b h i 0) fun a =>
      match a with | ⟨0, _⟩ => rfl | ⟨1, _⟩ => rfl | ⟨2, _⟩ => rfl | ⟨3, _⟩ => rfl).trans
    (broadcastInDim_apply _ _ _ _ (ix3 (n0 := 2) (n1 := 4) (n2 := 128) b h i) fun a => match a with | ⟨0, _⟩ => rfl | ⟨1, _⟩ => rfl | ⟨2, _⟩ => rfl)

/-- The last axis of the scores reduces away. -/
theorem red3 : S2x4x128x4096.Reduces [3] S2x4x128 := by decide

/-- The place of key `n` in row (`b`, `h`, `i`). -/
theorem lift3 (b : Fin 2) (h : Fin 4) (i : Fin 128) (n : Fin 4096) :
    red3.lift (ix3 (n0 := 2) (n1 := 4) (n2 := 128) b h i) n = ix4 (n0 := 2) (n1 := 4) (n2 := 128) (n3 := 4096) b h i n :=
  funext fun a => Fin.ext (match a with | ⟨0, _⟩ => rfl | ⟨1, _⟩ => rfl | ⟨2, _⟩ => rfl | ⟨3, _⟩ => rfl)

/-- The row maxima of real scores are reals. -/
theorem mxR_real (s : FVec Ideal S2x4x128x4096 .f32) (hs : ∀ b h i n, s (ix4 (n0 := 2) (n1 := 4) (n2 := 128) (n3 := 4096) b h i n) = σ b h i n)
    (b : Fin 2) (h : Fin 4) (i : Fin 128) : IsReal (mxR s (ix3 (n0 := 2) (n1 := 4) (n2 := 128) b h i)) := by
  have e0 : mxR s (ix3 (n0 := 2) (n1 := 4) (n2 := 128) b h i) = _ :=
    (congrFun (hostReduce_maximumf_eq_multiReduction s 0xFF800000#32 reducesTo_S2x4x128x4096_S2x4x128_d3 h_S_ red3 (.inl rfl) rfl) _).trans
      (Ideal.multiReduction_maximumf_single s 0xFF800000#32 red3 (.inl rfl) rfl (ix3 (n0 := 2) (n1 := 4) (n2 := 128) b h i))
  have e : (FloatOps.ofBits .f32 0xFF800000#32 : Ideal .f32) = ⊥ := ofBits_neg_inf
  rw [e0, e]
  exact isReal_fold_max _ ⟨⟨0, by decide⟩, Finset.mem_univ _⟩ _ fun n => ⟨σ b h i n, (congrArg s (lift3 b h i n)).trans (hs b h i n)⟩

/-- A weight, relative to the row's maximum. -/
theorem exR_val (s : FVec Ideal S2x4x128x4096 .f32) (hs : ∀ b h i n, s (ix4 (n0 := 2) (n1 := 4) (n2 := 128) (n3 := 4096) b h i n) = σ b h i n)
    (b : Fin 2) (h : Fin 4) (i : Fin 128) (n : Fin 4096) (μ : ℝ) (hμ : mxR s (ix3 (n0 := 2) (n1 := 4) (n2 := 128) b h i) = μ) :
    exR s (ix4 (n0 := 2) (n1 := 4) (n2 := 128) (n3 := 4096) b h i n) = ((Real.exp (σ b h i n - μ) : ℝ) : EReal) := by
  refine (show _ = Ideal.exp (s (ix4 (n0 := 2) (n1 := 4) (n2 := 128) (n3 := 4096) b h i n) - broadcastInDim S2x4x128x4096 ![0, 1, 2, 3] bcast_S2x4x128x1_S2x4x128x4096_0_1_2_3
      (broadcastInDim S2x4x128x1 ![0, 1, 2] bcast_S2x4x128_S2x4x128x1_0_1_2 (mxR s)) (ix4 (n0 := 2) (n1 := 4) (n2 := 128) (n3 := 4096) b h i n)) from rfl).trans ?_
  rw [mx4_val, hμ, hs, ← EReal.coe_sub, exp_coe]

/-- Every row has a kept key, so a selection by that takes its first operand: over rows, -/
theorem row1_val (p q : FVec Ideal S2x4x128x1 .f32) (b : Fin 2) (h : Fin 4) (i : Fin 128) :
    select (broadcastInDim S2x4x128x1 ![0, 1, 2, 3] bcast_S1x1x128x1_S2x4x128x1_0_1_2_3 rowM4) p q (ix4 (n0 := 2) (n1 := 4) (n2 := 128) (n3 := 1) b h i 0)
      = p (ix4 (n0 := 2) (n1 := 4) (n2 := 128) (n3 := 1) b h i 0) := by
  have e : broadcastInDim S2x4x128x1 ![0, 1, 2, 3] bcast_S1x1x128x1_S2x4x128x1_0_1_2_3 rowM4 (ix4 (n0 := 2) (n1 := 4) (n2 := 128) (n3 := 1) b h i 0) = 1#1 :=
    (broadcastInDim_apply _ _ _ _ (ix4 (n0 := 1) (n1 := 1) (n2 := 128) (n3 := 1) 0 0 i 0) fun a =>
      match a with | ⟨0, _⟩ => rfl | ⟨1, _⟩ => rfl | ⟨2, _⟩ => rfl | ⟨3, _⟩ => rfl).trans
    ((broadcastInDim_apply _ _ _ _ (ix1 (n0 := 128) i) fun a => match a with | ⟨0, _⟩ => rfl).trans (rowM_val i))
  rw [select_apply, e]
  exact select_ofBool true _ _

/-- and over rows and keys. -/
theorem row4_val (p q : FVec Ideal S2x4x128x4096 .f32) (b : Fin 2) (h : Fin 4) (i : Fin 128) (n : Fin 4096) :
    select (broadcastInDim S2x4x128x4096 ![0, 1, 2, 3] bcast_S1x1x128x1_S2x4x128x4096_0_1_2_3 rowM4) p q (ix4 (n0 := 2) (n1 := 4) (n2 := 128) (n3 := 4096) b h i n)
      = p (ix4 (n0 := 2) (n1 := 4) (n2 := 128) (n3 := 4096) b h i n) := by
  have e : broadcastInDim S2x4x128x4096 ![0, 1, 2, 3] bcast_S1x1x128x1_S2x4x128x4096_0_1_2_3 rowM4 (ix4 (n0 := 2) (n1 := 4) (n2 := 128) (n3 := 4096) b h i n) = 1#1 :=
    (broadcastInDim_apply _ _ _ _ (ix4 (n0 := 1) (n1 := 1) (n2 := 128) (n3 := 1) 0 0 i 0) fun a =>
      match a with | ⟨0, _⟩ => rfl | ⟨1, _⟩ => rfl | ⟨2, _⟩ => rfl | ⟨3, _⟩ => rfl).trans
    ((broadcastInDim_apply _ _ _ _ (ix1 (n0 := 128) i) fun a => match a with | ⟨0, _⟩ => rfl).trans (rowM_val i))
  rw [select_apply, e]
  exact select_ofBool true _ _

/-- A row's sum. -/
theorem smR_val (e : FVec Ideal S2x4x128x4096 .f32) (b : Fin 2) (h : Fin 4) (i : Fin 128) :
    smR e (ix4 (n0 := 2) (n1 := 4) (n2 := 128) (n3 := 1) b h i 0) = ∑ n : Fin 4096, e (ix4 (n0 := 2) (n1 := 4) (n2 := 128) (n3 := 4096) b h i n) := by
  unfold smR
  rw [row1_val]
  refine (broadcastInDim_apply _ _ _ _ (ix3 (n0 := 2) (n1 := 4) (n2 := 128) b h i) fun a => match a with | ⟨0, _⟩ => rfl | ⟨1, _⟩ => rfl | ⟨2, _⟩ => rfl).trans ?_
  rw [hostReduceAdd_apply, Ideal.hostReduceAdd_single _ red3]
  have z : (constant S_ .f32 0x00000000#32 : FVec Ideal S_ .f32) (Shape.Idx.first h_S_) = 0 := Ideal.ofBits_zero_f32
  rw [z, zero_add]
  exact Finset.sum_congr rfl fun n _ => congrArg e (lift3 b h i n)

/-- A share: the weight over its row's sum. -/
theorem wtR_val (e : FVec Ideal S2x4x128x4096 .f32) (b : Fin 2) (h : Fin 4) (i : Fin 128) (n : Fin 4096) :
    wtR e (ix4 (n0 := 2) (n1 := 4) (n2 := 128) (n3 := 4096) b h i n)
      = Ideal.div (e (ix4 (n0 := 2) (n1 := 4) (n2 := 128) (n3 := 4096) b h i n)) (∑ n : Fin 4096, e (ix4 (n0 := 2) (n1 := 4) (n2 := 128) (n3 := 4096) b h i n)) := by
  unfold wtR
  rw [row4_val, hostDivf_apply]
  refine congrArg _ ((broadcastInDim_apply _ _ _ _ (ix4 (n0 := 2) (n1 := 4) (n2 := 128) (n3 := 1) b h i 0) fun a =>
      match a with | ⟨0, _⟩ => rfl | ⟨1, _⟩ => rfl | ⟨2, _⟩ => rfl | ⟨3, _⟩ => rfl).trans (smR_val e b h i))

/-- The context: the values weighted by the shares. -/
theorem cxR_val (w : FVec Ideal S2x4x128x4096 .f32) (b : Fin 2) (i : Fin 128) (h : Fin 4) (d : Fin 64) :
    cxR (F := Ideal) v w (ix3 (n0 := 2) (n1 := 128) (n2 := 256) b i (col h d))
      = ∑ n : Fin 4096, v (ix4 b n h d) * w (ix4 (n0 := 2) (n1 := 4) (n2 := 128) (n3 := 4096) b h i n) := by
  refine (shapeCast_apply _ _ _ (ix4 (n0 := 2) (n1 := 128) (n2 := 4) (n3 := 64) b i h d) ?_).trans ?_
  · rw [Shape.rowMajor_val_four, Shape.rowMajor_val_three]
    show ((b.val * 128 + i.val) * 4 + h.val) * 64 + d.val = (b.val * 128 + i.val) * 256 + (64 * h.val + d.val)
    omega
  refine (transpose_apply _ _ _ _ (ix4 (n0 := 2) (n1 := 4) (n2 := 64) (n3 := 128) b h d i) fun a =>
      match a with | ⟨0, _⟩ => rfl | ⟨1, _⟩ => rfl | ⟨2, _⟩ => rfl | ⟨3, _⟩ => rfl).trans ?_
  simp only [Host.dotGeneral]
  rw [Ideal.dotGeneral_apply]
  exact sum_contr dot_S2x4096x4x64_S2x4x128x4096_S2x4x64x128_1_3_3_2_02_01 4096 rfl rfl _ _ _ (fun n => ix4 (n0 := 2) (n1 := 4096) (n2 := 4) (n3 := 64) b n h d)
    (fun n => ix4 (n0 := 2) (n1 := 4) (n2 := 128) (n3 := 4096) b h i n)
    (fun q e h => funext fun a => Fin.ext (match a with | ⟨0, _⟩ => rfl | ⟨1, _⟩ => h | ⟨2, _⟩ => rfl | ⟨3, _⟩ => rfl))
    (fun q e h => funext fun a => Fin.ext (match a with | ⟨0, _⟩ => rfl | ⟨1, _⟩ => rfl | ⟨2, _⟩ => rfl | ⟨3, _⟩ => h))

/-- A sum over the columns, by heads. -/
theorem sum_cols (f : Fin 256 → EReal) : ∑ g : Fin 256, f g = ∑ h : Fin 4, ∑ d : Fin 64, f (col h d) := by
  rw [← Equiv.sum_comp (finProdFinEquiv (m := 4) (n := 64)) f, Fintype.sum_prod_type]
  refine Finset.sum_congr rfl fun h _ => Finset.sum_congr rfl fun d _ => congrArg f (Fin.ext ?_)
  show d.val + 64 * h.val = 64 * h.val + d.val
  omega

/-- The reference's result is the formula. -/
theorem reference_val (hσ : ∀ b h i n, sv x wq k b h i n = σ b h i n) (b : Fin 2) (i : Fin 128) (n : Fin 512) :
    outR (F := Ideal) x wq k v wo (ix3 (n0 := 2) (n1 := 128) (n2 := 512) b i n) = outS σ v wo b i n := by
  have hs : ∀ b h i n, scR (F := Ideal) (qR x wq) k (ix4 (n0 := 2) (n1 := 4) (n2 := 128) (n3 := 4096) b h i n) = σ b h i n :=
    fun b h i n => (scR_val b h i n).trans (hσ b h i n)
  unfold outR
  simp only [Host.dotGeneral]
  rw [Ideal.dotGeneral_apply]
  refine (sum_contr dot_S2x128x256_S256x512_S2x128x512_2_0_01_1_n_n 256 rfl rfl _ _ _ (fun e => ix3 (n0 := 2) (n1 := 128) (n2 := 256) b i e)
      (fun e => ix2 (n0 := 256) (n1 := 512) e n)
      (fun q e h => funext fun a => Fin.ext (match a with | ⟨0, _⟩ => rfl | ⟨1, _⟩ => rfl | ⟨2, _⟩ => h))
      (fun q e h => funext fun a => Fin.ext (match a with | ⟨0, _⟩ => h | ⟨1, _⟩ => rfl))).trans ?_
  rw [sum_cols]
  refine Finset.sum_congr rfl fun h _ => Finset.sum_congr rfl fun d _ => congrArg (· * _) ?_
  obtain ⟨μ, hμ⟩ := mxR_real (scR (F := Ideal) (qR x wq) k) hs b h i
  rw [cxR_val]
  refine Eq.trans ?_ (avg_of_shares (σ b h i) (fun j => v (ix4 b j h d)) Finset.univ Finset.univ_nonempty μ)
  refine Finset.sum_congr rfl fun j _ => ?_
  rw [wtR_val, exR_val _ hs b h i j μ hμ]
  exact congrArg (fun t => v (ix4 b j h d) * Ideal.div _ t) (Finset.sum_congr rfl fun l _ => exR_val _ hs b h i l μ hμ)

end Cert.Value
-- ==== Proof.Value.Algebraic.lean ====
/-
# The kernel's result is the reference's

From finite queries, query weights and keys, on every device: both are the same formula of the whole arrays.
-/
module

public import proofs.«01_k».proof.Defs
public import proofs.«01_k».proof.Proof.Run
public import proofs.«01_k».proof.Proof.Value.Kernel
public import proofs.«01_k».proof.Proof.Value.Reference

@[expose] public section

noncomputable section

namespace Cert.Value

open Idealize.ShloMosaic Idealize.SL.Sem
open scoped BigOperators

/-- The precondition's shapes on the kernel's side broadcast as it says, -/
theorem factsPreK : Cert.Pre_finite_KernelIdeal.Facts := ⟨by decide, by decide, by decide⟩
/-- and on the reference's. -/
theorem factsPreR : Cert.Pre_finite_ReferenceIdeal.Facts := ⟨by decide, by decide, by decide⟩

/-- Elements whose magnitudes compare below infinity are reals. -/
theorem real_of_cmp {s : Shape} (f : FVec Ideal s .f32) (h : (⟨0, ![]⟩ : Shape).BroadcastsInDim s ![])
    (e : cmpf .olt (Host.absf f) (broadcastInDim s ![] h (constant ⟨0, ![]⟩ .f32 0x7F800000#32 : FVec Ideal ⟨0, ![]⟩ .f32)) = fun _ => 1#1) (z : s.Idx) :
    IsReal (f z) := by
  have e1 : BitVec.ofBool (decide (max (f z) (-(f z)) < Ideal.ofBits .f32 0x7F800000#32)) = 1#1 := congrFun e z
  have e2 : Ideal.ofBits .f32 0x7F800000#32 = ⊤ := by simp [Ideal.ofBits, Ideal.ieee]
  rw [e2] at e1
  refine isReal_of_abs_lt_top ?_
  by_contra hn
  rw [decide_eq_false hn] at e1
  exact absurd e1 (by decide)

section Inputs
open Cert.KernelIdeal Cert.KernelIdeal.Gen Cert.KernelIdealProof

variable (m : (ℓ : Loc nD τ sig) → Buf (Elt Ideal) ℓ) (c : Dev nD)

/-- The five input buffers hold the five arguments. -/
theorem inp_x : (inpOf m c).x = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem inp_wq : (inpOf m c).wq = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem inp_k : (inpOf m c).k = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem inp_v : (inpOf m c).v = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _
theorem inp_wo : (inpOf m c).wo = m ((c.tc : Thread nD τ).loc main_arg4) := by
  have hz : (fun a => (win0_4.index (0 : Fin 1)) a * main_arg4.ty.shape.size a) = fun _ => 0 := funext fun a => by fin_cases a <;> decide
  exact Memref.read_access_unit_zero (Elt Ideal) main_arg4 hz (fun a => by fin_cases a <;> decide) _

/-- A device's block of an array of keys or values. -/
theorem block_val (g : AK) (b : Fin 2) (j : Fin 128) (h : Fin 4) (d : Fin 64) :
    Layout.block ⟨4, ![2, 128, 4, 64]⟩ ⟨4, ![2, 4096, 4, 64]⟩ 1 32 c g (by decide) (ix4 (n0 := 2) (n1 := 128) (n2 := 4) (n3 := 64) b j h d)
      = g (ix4 b (gk c j) h d) := by
  rw [Layout.block_apply]
  refine congrArg g (funext fun a => Fin.ext ?_)
  match a with
  | ⟨0, _⟩ => rfl
  | ⟨1, _⟩ =>
    show c.val * 128 + j.val = 128 * c.val + j.val
    omega
  | ⟨2, _⟩ => rfl
  | ⟨3, _⟩ => rfl

/-- Every key is in some device's block, so keys finite on every device are finite. -/
theorem real_of_blocks (g : AK) (hg : ∀ (c : Dev nD) z, IsReal (Layout.block ⟨4, ![2, 128, 4, 64]⟩ ⟨4, ![2, 4096, 4, 64]⟩ 1 32 c g (by decide) z)) (z) :
    IsReal (g z) := by
  have hn : (z 1).val < 4096 := (z 1).isLt
  let c : Dev nD := ⟨(z 1).val / 128, by show _ < 32; omega⟩
  let j : Fin 128 := ⟨(z 1).val % 128, Nat.mod_lt _ (by decide)⟩
  have h := (congrArg IsReal (block_val c g (z 0) j (z 2) (z 3))).mp (hg c _)
  have e : ix4 (n0 := 2) (n1 := 4096) (n2 := 4) (n3 := 64) (z 0) (gk c j) (z 2) (z 3) = z := funext fun a => Fin.ext (by
    match a with
    | ⟨0, _⟩ => rfl
    | ⟨1, _⟩ => exact Nat.div_add_mod (z 1).val 128
    | ⟨2, _⟩ => rfl
    | ⟨3, _⟩ => rfl)
  rw [e] at h
  exact h

end Inputs

attribute [local irreducible] Cert.KernelIdealProof.outV Cert.KernelIdealProof.St outR in
/-- The kernel's result is the reference's, and both leave their arguments unchanged. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := factsPreK) := by
  intro m g m' g' hp hm
  let x : AX := m' (((0 : Dev Cert.ReferenceIdeal.nD).tc : Thread Cert.ReferenceIdeal.nD Cert.ReferenceIdeal.τ).loc Cert.ReferenceIdeal.main_arg0)
  let wq : AQ := m' (((0 : Dev Cert.ReferenceIdeal.nD).tc : Thread Cert.ReferenceIdeal.nD Cert.ReferenceIdeal.τ).loc Cert.ReferenceIdeal.main_arg1)
  let k : AK := m' (((0 : Dev Cert.ReferenceIdeal.nD).tc : Thread Cert.ReferenceIdeal.nD Cert.ReferenceIdeal.τ).loc Cert.ReferenceIdeal.main_arg2)
  let v : AK := m' (((0 : Dev Cert.ReferenceIdeal.nD).tc : Thread Cert.ReferenceIdeal.nD Cert.ReferenceIdeal.τ).loc Cert.ReferenceIdeal.main_arg3)
  let wo : AO := m' (((0 : Dev Cert.ReferenceIdeal.nD).tc : Thread Cert.ReferenceIdeal.nD Cert.ReferenceIdeal.τ).loc Cert.ReferenceIdeal.main_arg4)
  have hx : ∀ z, IsReal (x z) := fun z => by
    have := real_of_cmp _ factsPreK.bcast_S_S2x128x512 (hp 0).1 z
    rw [(hm 0).1] at this
    exact this
  have hq : ∀ z, IsReal (wq z) := fun z => by
    have := real_of_cmp _ factsPreK.bcast_S_S512x256 (hp 0).2.1 z
    rw [(hm 0).2.1] at this
    exact this
  have hk : ∀ z, IsReal (k z) := real_of_blocks k fun c z => by
    have := real_of_cmp _ factsPreK.bcast_S_S2x128x4x64 (hp c).2.2 z
    rw [(hm c).2.2.1] at this
    exact this
  obtain ⟨σ, hσ⟩ := sv_real x wq k hx hq hk
  have H : Held (Cert.KernelIdealProof.inpOf m) x wq k v wo σ :=
    { hx := fun c => (inp_x m c).trans (hm c).1
      hwq := fun c => (inp_wq m c).trans (hm c).2.1
      hwo := fun c => (inp_wo m c).trans (hm c).2.2.2.2
      hk := fun c b j h d => by rw [inp_k, (hm c).2.2.1]; exact block_val c k b j h d
      hv := fun c b j h d => by rw [inp_v, (hm c).2.2.2.1]; exact block_val c v b j h d
      hσ := hσ }
  have hr : ∀ c, Cert.KernelIdealProof.res m c = outR (F := Ideal) x wq k v wo := fun c => funext fun y => by
    have ey : y = ix3 (n0 := 2) (n1 := 128) (n2 := 512) (y 0) (y 1) (y 2) := eq_ix3 (n0 := 2) (n1 := 128) (n2 := 512) y
    rw [ey]
    exact (kernel_val H c _ _ _).trans (reference_val hσ _ _ _).symm
  refine ⟨outR (F := Ideal) x wq k v wo, (θ_run Cert.KernelIdeal.defs _ _).mono (fun r h c => ⟨(h.1 c).1.trans (hr c), (h.1 c).2⟩)
      (Cert.KernelIdealProof.run_read (F := Ideal) m g),
    (θ_run Cert.ReferenceIdeal.defs _ _).mono (fun r h => ⟨(h 0).1.trans (res_eq m' 0), (h 0).2⟩) (Cert.ReferenceIdeal.Value.run (F := Ideal) m' g')⟩

end Cert.Value

end
-- ==== Proof.lean ====
/-
# The claims

The kernel's and the reference's runs, put together into `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Everything the certificate states. -/
theorem claim : Cert.Claim := ⟨Cert.Kernel.Gen.facts, Cert.KernelIdeal.Gen.facts, Cert.ReferenceIdeal.Gen.facts,
  Cert.Value.factsPreK, Cert.Value.factsPreR, Cert.Frames.kernel, Cert.Frames.kernelIdeal,
  fun m g _ => Cert.Frames.kernelIdeal m g trivial, Cert.Frames.reference,
  fun m g _ => Cert.Frames.reference m g trivial, trivial, Cert.Value.algebraic⟩

end Cert.Proof

end
